-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "inv_s" .f32 0x3A2AAAAB#32 ((1 / 1536 : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1536x1152 : Shape := ⟨3, ![3, 1536, 1152]⟩
abbrev S3x1536 : Shape := ⟨2, ![3, 1536]⟩
abbrev S_ : Shape := ⟨0, ![]⟩
abbrev S1x1 : Shape := ⟨2, ![1, 1]⟩
abbrev S1x1536x1152 : Shape := ⟨3, ![1, 1536, 1152]⟩
abbrev S1152x1536 : Shape := ⟨2, ![1152, 1536]⟩
abbrev S2x1536x256 : Shape := ⟨3, ![2, 1536, 256]⟩
abbrev S1536x128 : Shape := ⟨2, ![1536, 128]⟩
abbrev S1x128 : Shape := ⟨2, ![1, 128]⟩
abbrev S1x1536 : Shape := ⟨2, ![1, 1536]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x256 : Shape := ⟨2, ![1, 256]⟩
abbrev S1x256x1152 : Shape := ⟨3, ![1, 256, 1152]⟩
abbrev S256x1152 : Shape := ⟨2, ![256, 1152]⟩
abbrev S8x256 : Shape := ⟨2, ![8, 256]⟩
abbrev S256x256 : Shape := ⟨2, ![256, 256]⟩
abbrev S8x128 : Shape := ⟨2, ![8, 128]⟩
abbrev S1x256x256 : Shape := ⟨3, ![1, 256, 256]⟩
abbrev S256 : Shape := ⟨1, ![256]⟩
abbrev S384x1536 : Shape := ⟨2, ![384, 1536]⟩
abbrev S1x1536x256 : Shape := ⟨3, ![1, 1536, 256]⟩
abbrev S1536x256 : Shape := ⟨2, ![1536, 256]⟩
abbrev S384x256 : Shape := ⟨2, ![384, 256]⟩
abbrev S256x384 : Shape := ⟨2, ![256, 384]⟩
abbrev S1x256x384 : Shape := ⟨3, ![1, 256, 384]⟩
abbrev S1152x256 : Shape := ⟨2, ![1152, 256]⟩

abbrev nBuf : Space → Nat
  | .hbm => 14
  | .vmem => 20
  | .smem => 2
  | _ => 0

abbrev bufTy : (tb : Table) → Fin (tcTables nBuf tb) → BufTy
  | .hbm, ⟨0, _⟩ => ⟨S3x1536x1152, .fp8e4m3⟩
  | .hbm, ⟨1, _⟩ => ⟨S3x1536, .f32⟩
  | .hbm, ⟨2, _⟩ => ⟨S3x1536x1152, .fp8e4m3⟩
  | .hbm, ⟨3, _⟩ => ⟨S3x1536, .f32⟩
  | .hbm, ⟨4, _⟩ => ⟨S3x1536, .i32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S3x1536, .f32⟩
  | .hbm, ⟨10, _⟩ => ⟨S3x1536x1152, .bf16⟩
  | .hbm, ⟨11, _⟩ => ⟨S3x1536x1152, .bf16⟩
  | .hbm, ⟨12, _⟩ => ⟨S3x1536, .f32⟩
  | .hbm, ⟨13, _⟩ => ⟨S3x1536, .f32⟩
  | .local _ .vmem, ⟨0, _⟩ => ⟨S3x1536, .f32⟩
  | .local _ .vmem, ⟨1, _⟩ => ⟨S3x1536, .f32⟩
  | .local _ .vmem, ⟨2, _⟩ => ⟨S3x1536, .i32⟩
  | .local _ .vmem, ⟨3, _⟩ => ⟨S1x1536x1152, .fp8e4m3⟩
  | .local _ .vmem, ⟨4, _⟩ => ⟨S1x1536x1152, .fp8e4m3⟩
  | .local _ .vmem, ⟨5, _⟩ => ⟨S1x1536x1152, .fp8e4m3⟩
  | .local _ .vmem, ⟨6, _⟩ => ⟨S1x1536x1152, .fp8e4m3⟩
  | .local _ .vmem, ⟨7, _⟩ => ⟨S3x1536, .f32⟩
  | .local _ .vmem, ⟨8, _⟩ => ⟨S1x1536x1152, .bf16⟩
  | .local _ .vmem, ⟨9, _⟩ => ⟨S1x1536x1152, .bf16⟩
  | .local _ .vmem, ⟨10, _⟩ => ⟨S1x1536x1152, .bf16⟩
  | .local _ .vmem, ⟨11, _⟩ => ⟨S1x1536x1152, .bf16⟩
  | .local _ .vmem, ⟨12, _⟩ => ⟨S3x1536, .f32⟩
  | .local _ .vmem, ⟨13, _⟩ => ⟨S3x1536, .f32⟩
  | .local _ .vmem, ⟨14, _⟩ => ⟨S1152x1536, .bf16⟩
  | .local _ .vmem, ⟨15, _⟩ => ⟨S1152x1536, .bf16⟩
  | .local _ .vmem, ⟨16, _⟩ => ⟨S2x1536x256, .bf16⟩
  | .local _ .vmem, ⟨17, _⟩ => ⟨S1152x1536, .f32⟩
  | .local _ .vmem, ⟨18, _⟩ => ⟨S1536x128, .f32⟩
  | .local _ .vmem, ⟨19, _⟩ => ⟨S1536x128, .i32⟩
  | .local _ .smem, ⟨0, _⟩ => ⟨S1x1, .f32⟩
  | .local _ .smem, ⟨1, _⟩ => ⟨S1x1, .f32⟩
  | _, _ => ⟨S3x1536x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![3], ![false]⟩

def k0_off1 (i : grid0.Coords) : Fin 2 → Nat :=
  let arg0 : BitVec 32 := BitVec.ofNat 32 (i 0).val
  let v6 : Index := Scalar.indexCast arg0
  let c0_3 : Index := 0#32
  ![v6.toNat, 0]
@[reducible] def k0_t1_loop : Scf.Loop 32 :=
  let c0_i32 : BitVec 32 := 0#32
  let c6_i32 : BitVec 32 := 6#32
  let v1207 : BitVec 32 := Scalar.addi c0_i32 c6_i32
  let c1_i32 : BitVec 32 := 1#32
  ⟨c0_i32, v1207, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c256_i32 : BitVec 32 := 256#32
  let v1900 : BitVec 32 := Scalar.muli arg19 c256_i32
  v1900
def k0_off2 (k0_t1 : Fin k0_t1_loop.trips) : Fin 3 → Nat :=
  let c0_1155 : Index := 0#32
  let c0_i32 : BitVec 32 := 0#32
  let c1_i32 : BitVec 32 := 1#32
  let arg19 : BitVec 32 := Scf.iv c0_i32 c1_i32 k0_t1
  let c256_i32 : BitVec 32 := 256#32
  let v1900 : BitVec 32 := Scalar.muli arg19 c256_i32
  let v1901 : BitVec 32 := v1900
  let v1902 : Index := Scalar.indexCast v1901
  let c0_1156 : Index := 0#32
  ![0, v1902.toNat, 0]
def k0_off3 (k0_t1 : Fin k0_t1_loop.trips) (c0_i32_1158 : BitVec 32) : Fin 2 → Nat :=
  let c0_i32 : BitVec 32 := 0#32
  let c1_i32 : BitVec 32 := 1#32
  let arg19 : BitVec 32 := Scf.iv c0_i32 c1_i32 k0_t1
  let c256_i32 : BitVec 32 := 256#32
  let v1900 : BitVec 32 := Scalar.muli arg19 c256_i32
  let v1901 : BitVec 32 := v1900
  let v1906 : BitVec 32 := Scalar.addi v1901 c0_i32_1158
  let v1907 : Index := Scalar.indexCast v1906
  let c0_1159 : Index := 0#32
  ![v1907.toNat, 0]
def k0_off4 (k0_t1 : Fin k0_t1_loop.trips) : Fin 3 → Nat :=
  let c0_1515 : Index := 0#32
  let c0_i32 : BitVec 32 := 0#32
  let c1_i32 : BitVec 32 := 1#32
  let arg19 : BitVec 32 := Scf.iv c0_i32 c1_i32 k0_t1
  let c256_i32 : BitVec 32 := 256#32
  let v1900 : BitVec 32 := Scalar.muli arg19 c256_i32
  let v1901 : BitVec 32 := v1900
  let v3361 : Index := Scalar.indexCast v1901
  let c0_1516 : Index := 0#32
  ![0, v3361.toNat, 0]
def k0_off5 (i : grid0.Coords) : Fin 2 → Nat :=
  let arg0 : BitVec 32 := BitVec.ofNat 32 (i 0).val
  let v1214 : Index := Scalar.indexCast arg0
  let c0_549 : Index := 0#32
  ![v1214.toNat, 0]
@[reducible] def k0_t2_loop : Scf.Loop 32 :=
  let c0_i32_560 : BitVec 32 := 0#32
  let c6_i32_561 : BitVec 32 := 6#32
  let v1235 : BitVec 32 := Scalar.addi c0_i32_560 c6_i32_561
  let c1_i32_562 : BitVec 32 := 1#32
  ⟨c0_i32_560, v1235, c1_i32_562⟩
def k0_mult2 (k0_t2 : Fin k0_t2_loop.trips) : BitVec 32 :=
  let c0_i32_560 : BitVec 32 := 0#32
  let c1_i32_562 : BitVec 32 := 1#32
  let arg19 : BitVec 32 := Scf.iv c0_i32_560 c1_i32_562 k0_t2
  let c256_i32 : BitVec 32 := 256#32
  let v1900 : BitVec 32 := Scalar.muli arg19 c256_i32
  v1900
def k0_off6 (k0_t2 : Fin k0_t2_loop.trips) : Fin 3 → Nat :=
  let c0_1155 : Index := 0#32
  let c0_i32_560 : BitVec 32 := 0#32
  let c1_i32_562 : BitVec 32 := 1#32
  let arg19 : BitVec 32 := Scf.iv c0_i32_560 c1_i32_562 k0_t2
  let c256_i32 : BitVec 32 := 256#32
  let v1900 : BitVec 32 := Scalar.muli arg19 c256_i32
  let v1901 : BitVec 32 := v1900
  let v1902 : Index := Scalar.indexCast v1901
  let c0_1156 : Index := 0#32
  ![0, v1902.toNat, 0]
def k0_off7 (k0_t2 : Fin k0_t2_loop.trips) (c0_i32_1158 : BitVec 32) : Fin 2 → Nat :=
  let c0_i32_560 : BitVec 32 := 0#32
  let c1_i32_562 : BitVec 32 := 1#32
  let arg19 : BitVec 32 := Scf.iv c0_i32_560 c1_i32_562 k0_t2
  let c256_i32 : BitVec 32 := 256#32
  let v1900 : BitVec 32 := Scalar.muli arg19 c256_i32
  let v1901 : BitVec 32 := v1900
  let v1906 : BitVec 32 := Scalar.addi v1901 c0_i32_1158
  let v1907 : Index := Scalar.indexCast v1906
  let c0_1159 : Index := 0#32
  ![v1907.toNat, 0]
def k0_off8 (k0_t2 : Fin k0_t2_loop.trips) : Fin 3 → Nat :=
  let c1_1515 : Index := 1#32
  let c0_i32_560 : BitVec 32 := 0#32
  let c1_i32_562 : BitVec 32 := 1#32
  let arg19 : BitVec 32 := Scf.iv c0_i32_560 c1_i32_562 k0_t2
  let c256_i32 : BitVec 32 := 256#32
  let v1900 : BitVec 32 := Scalar.muli arg19 c256_i32
  let v1901 : BitVec 32 := v1900
  let v3361 : Index := Scalar.indexCast v1901
  let c0_1516 : Index := 0#32
  ![1, v3361.toNat, 0]
def k0_off9 (i : grid0.Coords) : Fin 2 → Nat :=
  let arg0 : BitVec 32 := BitVec.ofNat 32 (i 0).val
  let v1242 : Index := Scalar.indexCast arg0
  let c256_566 : Index := 256#32
  ![v1242.toNat, 256]
@[reducible] def k0_t3_loop : Scf.Loop 32 :=
  let c0_i32_652 : BitVec 32 := 0#32
  let c6_i32_653 : BitVec 32 := 6#32
  let v1338 : BitVec 32 := Scalar.addi c0_i32_652 c6_i32_653
  let c1_i32_654 : BitVec 32 := 1#32
  ⟨c0_i32_652, v1338, c1_i32_654⟩
def k0_mult3 (k0_t3 : Fin k0_t3_loop.trips) : BitVec 32 :=
  let c0_i32_652 : BitVec 32 := 0#32
  let c1_i32_654 : BitVec 32 := 1#32
  let arg19 : BitVec 32 := Scf.iv c0_i32_652 c1_i32_654 k0_t3
  let c256_i32 : BitVec 32 := 256#32
  let v1900 : BitVec 32 := Scalar.muli arg19 c256_i32
  v1900
def k0_off10 (k0_t3 : Fin k0_t3_loop.trips) : Fin 3 → Nat :=
  let c0_1155 : Index := 0#32
  let c0_i32_652 : BitVec 32 := 0#32
  let c1_i32_654 : BitVec 32 := 1#32
  let arg19 : BitVec 32 := Scf.iv c0_i32_652 c1_i32_654 k0_t3
  let c256_i32 : BitVec 32 := 256#32
  let v1900 : BitVec 32 := Scalar.muli arg19 c256_i32
  let v1901 : BitVec 32 := v1900
  let v1902 : Index := Scalar.indexCast v1901
  let c0_1156 : Index := 0#32
  ![0, v1902.toNat, 0]
def k0_off11 (k0_t3 : Fin k0_t3_loop.trips) (c0_i32_1158 : BitVec 32) : Fin 2 → Nat :=
  let c0_i32_652 : BitVec 32 := 0#32
  let c1_i32_654 : BitVec 32 := 1#32
  let arg19 : BitVec 32 := Scf.iv c0_i32_652 c1_i32_654 k0_t3
  let c256_i32 : BitVec 32 := 256#32
  let v1900 : BitVec 32 := Scalar.muli arg19 c256_i32
  let v1901 : BitVec 32 := v1900
  let v1906 : BitVec 32 := Scalar.addi v1901 c0_i32_1158
  let v1907 : Index := Scalar.indexCast v1906
  let c0_1159 : Index := 0#32
  ![v1907.toNat, 0]
def k0_off12 (k0_t3 : Fin k0_t3_loop.trips) : Fin 3 → Nat :=
  let c0_1515 : Index := 0#32
  let c0_i32_652 : BitVec 32 := 0#32
  let c1_i32_654 : BitVec 32 := 1#32
  let arg19 : BitVec 32 := Scf.iv c0_i32_652 c1_i32_654 k0_t3
  let c256_i32 : BitVec 32 := 256#32
  let v1900 : BitVec 32 := Scalar.muli arg19 c256_i32
  let v1901 : BitVec 32 := v1900
  let v3361 : Index := Scalar.indexCast v1901
  let c0_1516 : Index := 0#32
  ![0, v3361.toNat, 0]
def k0_off13 (i : grid0.Coords) : Fin 2 → Nat :=
  let arg0 : BitVec 32 := BitVec.ofNat 32 (i 0).val
  let v1345 : Index := Scalar.indexCast arg0
  let c512_658 : Index := 512#32
  ![v1345.toNat, 512]
@[reducible] def k0_t4_loop : Scf.Loop 32 :=
  let c0_i32_755 : BitVec 32 := 0#32
  let c6_i32_756 : BitVec 32 := 6#32
  let v1453 : BitVec 32 := Scalar.addi c0_i32_755 c6_i32_756
  let c1_i32_757 : BitVec 32 := 1#32
  ⟨c0_i32_755, v1453, c1_i32_757⟩
def k0_mult4 (k0_t4 : Fin k0_t4_loop.trips) : BitVec 32 :=
  let c0_i32_755 : BitVec 32 := 0#32
  let c1_i32_757 : BitVec 32 := 1#32
  let arg19 : BitVec 32 := Scf.iv c0_i32_755 c1_i32_757 k0_t4
  let c256_i32 : BitVec 32 := 256#32
  let v1900 : BitVec 32 := Scalar.muli arg19 c256_i32
  v1900
def k0_off14 (k0_t4 : Fin k0_t4_loop.trips) : Fin 3 → Nat :=
  let c0_1155 : Index := 0#32
  let c0_i32_755 : BitVec 32 := 0#32
  let c1_i32_757 : BitVec 32 := 1#32
  let arg19 : BitVec 32 := Scf.iv c0_i32_755 c1_i32_757 k0_t4
  let c256_i32 : BitVec 32 := 256#32
  let v1900 : BitVec 32 := Scalar.muli arg19 c256_i32
  let v1901 : BitVec 32 := v1900
  let v1902 : Index := Scalar.indexCast v1901
  let c0_1156 : Index := 0#32
  ![0, v1902.toNat, 0]
def k0_off15 (k0_t4 : Fin k0_t4_loop.trips) (c0_i32_1158 : BitVec 32) : Fin 2 → Nat :=
  let c0_i32_755 : BitVec 32 := 0#32
  let c1_i32_757 : BitVec 32 := 1#32
  let arg19 : BitVec 32 := Scf.iv c0_i32_755 c1_i32_757 k0_t4
  let c256_i32 : BitVec 32 := 256#32
  let v1900 : BitVec 32 := Scalar.muli arg19 c256_i32
  let v1901 : BitVec 32 := v1900
  let v1906 : BitVec 32 := Scalar.addi v1901 c0_i32_1158
  let v1907 : Index := Scalar.indexCast v1906
  let c0_1159 : Index := 0#32
  ![v1907.toNat, 0]
def k0_off16 (k0_t4 : Fin k0_t4_loop.trips) : Fin 3 → Nat :=
  let c1_1515 : Index := 1#32
  let c0_i32_755 : BitVec 32 := 0#32
  let c1_i32_757 : BitVec 32 := 1#32
  let arg19 : BitVec 32 := Scf.iv c0_i32_755 c1_i32_757 k0_t4
  let c256_i32 : BitVec 32 := 256#32
  let v1900 : BitVec 32 := Scalar.muli arg19 c256_i32
  let v1901 : BitVec 32 := v1900
  let v3361 : Index := Scalar.indexCast v1901
  let c0_1516 : Index := 0#32
  ![1, v3361.toNat, 0]
def k0_off17 (i : grid0.Coords) : Fin 2 → Nat :=
  let arg0 : BitVec 32 := BitVec.ofNat 32 (i 0).val
  let v1460 : Index := Scalar.indexCast arg0
  let c768_761 : Index := 768#32
  ![v1460.toNat, 768]
@[reducible] def k0_t5_loop : Scf.Loop 32 :=
  let c0_i32_859 : BitVec 32 := 0#32
  let c6_i32_860 : BitVec 32 := 6#32
  let v1568 : BitVec 32 := Scalar.addi c0_i32_859 c6_i32_860
  let c1_i32_861 : BitVec 32 := 1#32
  ⟨c0_i32_859, v1568, c1_i32_861⟩
def k0_mult5 (k0_t5 : Fin k0_t5_loop.trips) : BitVec 32 :=
  let c0_i32_859 : BitVec 32 := 0#32
  let c1_i32_861 : BitVec 32 := 1#32
  let arg19 : BitVec 32 := Scf.iv c0_i32_859 c1_i32_861 k0_t5
  let c256_i32 : BitVec 32 := 256#32
  let v1900 : BitVec 32 := Scalar.muli arg19 c256_i32
  v1900
def k0_off18 (k0_t5 : Fin k0_t5_loop.trips) : Fin 3 → Nat :=
  let c0_1155 : Index := 0#32
  let c0_i32_859 : BitVec 32 := 0#32
  let c1_i32_861 : BitVec 32 := 1#32
  let arg19 : BitVec 32 := Scf.iv c0_i32_859 c1_i32_861 k0_t5
  let c256_i32 : BitVec 32 := 256#32
  let v1900 : BitVec 32 := Scalar.muli arg19 c256_i32
  let v1901 : BitVec 32 := v1900
  let v1902 : Index := Scalar.indexCast v1901
  let c0_1156 : Index := 0#32
  ![0, v1902.toNat, 0]
def k0_off19 (k0_t5 : Fin k0_t5_loop.trips) (c0_i32_1158 : BitVec 32) : Fin 2 → Nat :=
  let c0_i32_859 : BitVec 32 := 0#32
  let c1_i32_861 : BitVec 32 := 1#32
  let arg19 : BitVec 32 := Scf.iv c0_i32_859 c1_i32_861 k0_t5
  let c256_i32 : BitVec 32 := 256#32
  let v1900 : BitVec 32 := Scalar.muli arg19 c256_i32
  let v1901 : BitVec 32 := v1900
  let v1906 : BitVec 32 := Scalar.addi v1901 c0_i32_1158
  let v1907 : Index := Scalar.indexCast v1906
  let c0_1159 : Index := 0#32
  ![v1907.toNat, 0]
def k0_off20 (k0_t5 : Fin k0_t5_loop.trips) : Fin 3 → Nat :=
  let c0_1515 : Index := 0#32
  let c0_i32_859 : BitVec 32 := 0#32
  let c1_i32_861 : BitVec 32 := 1#32
  let arg19 : BitVec 32 := Scf.iv c0_i32_859 c1_i32_861 k0_t5
  let c256_i32 : BitVec 32 := 256#32
  let v1900 : BitVec 32 := Scalar.muli arg19 c256_i32
  let v1901 : BitVec 32 := v1900
  let v3361 : Index := Scalar.indexCast v1901
  let c0_1516 : Index := 0#32
  ![0, v3361.toNat, 0]
def k0_off21 (i : grid0.Coords) : Fin 2 → Nat :=
  let arg0 : BitVec 32 := BitVec.ofNat 32 (i 0).val
  let v1575 : Index := Scalar.indexCast arg0
  let c1024_865 : Index := 1024#32
  ![v1575.toNat, 1024]
@[reducible] def k0_t6_loop : Scf.Loop 32 :=
  let c0_i32_963 : BitVec 32 := 0#32
  let c6_i32_964 : BitVec 32 := 6#32
  let v1683 : BitVec 32 := Scalar.addi c0_i32_963 c6_i32_964
  let c1_i32_965 : BitVec 32 := 1#32
  ⟨c0_i32_963, v1683, c1_i32_965⟩
def k0_mult6 (k0_t6 : Fin k0_t6_loop.trips) : BitVec 32 :=
  let c0_i32_963 : BitVec 32 := 0#32
  let c1_i32_965 : BitVec 32 := 1#32
  let arg19 : BitVec 32 := Scf.iv c0_i32_963 c1_i32_965 k0_t6
  let c256_i32 : BitVec 32 := 256#32
  let v1900 : BitVec 32 := Scalar.muli arg19 c256_i32
  v1900
def k0_off22 (k0_t6 : Fin k0_t6_loop.trips) : Fin 3 → Nat :=
  let c0_1155 : Index := 0#32
  let c0_i32_963 : BitVec 32 := 0#32
  let c1_i32_965 : BitVec 32 := 1#32
  let arg19 : BitVec 32 := Scf.iv c0_i32_963 c1_i32_965 k0_t6
  let c256_i32 : BitVec 32 := 256#32
  let v1900 : BitVec 32 := Scalar.muli arg19 c256_i32
  let v1901 : BitVec 32 := v1900
  let v1902 : Index := Scalar.indexCast v1901
  let c0_1156 : Index := 0#32
  ![0, v1902.toNat, 0]
def k0_off23 (k0_t6 : Fin k0_t6_loop.trips) (c0_i32_1158 : BitVec 32) : Fin 2 → Nat :=
  let c0_i32_963 : BitVec 32 := 0#32
  let c1_i32_965 : BitVec 32 := 1#32
  let arg19 : BitVec 32 := Scf.iv c0_i32_963 c1_i32_965 k0_t6
  let c256_i32 : BitVec 32 := 256#32
  let v1900 : BitVec 32 := Scalar.muli arg19 c256_i32
  let v1901 : BitVec 32 := v1900
  let v1906 : BitVec 32 := Scalar.addi v1901 c0_i32_1158
  let v1907 : Index := Scalar.indexCast v1906
  let c0_1159 : Index := 0#32
  ![v1907.toNat, 0]
def k0_off24 (k0_t6 : Fin k0_t6_loop.trips) : Fin 3 → Nat :=
  let c1_1515 : Index := 1#32
  let c0_i32_963 : BitVec 32 := 0#32
  let c1_i32_965 : BitVec 32 := 1#32
  let arg19 : BitVec 32 := Scf.iv c0_i32_963 c1_i32_965 k0_t6
  let c256_i32 : BitVec 32 := 256#32
  let v1900 : BitVec 32 := Scalar.muli arg19 c256_i32
  let v1901 : BitVec 32 := v1900
  let v3361 : Index := Scalar.indexCast v1901
  let c0_1516 : Index := 0#32
  ![1, v3361.toNat, 0]
def k0_off25 (i : grid0.Coords) : Fin 2 → Nat :=
  let arg0 : BitVec 32 := BitVec.ofNat 32 (i 0).val
  let v1690 : Index := Scalar.indexCast arg0
  let c1280_969 : Index := 1280#32
  ![v1690.toNat, 1280]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1536 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1536x1152 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1536x1152 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1536x1152 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1536x1152 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_s" => some ((1 / 1536 : ℝ) : EReal)
  | "ln2" => some ((Real.log 2 : ℝ) : EReal)
  | "log2e" => some (((Real.log 2)⁻¹ : ℝ) : EReal)
  | _ => none
-- ==== ReferenceIdeal.lean ====
abbrev S3x1536x1152 : Shape := ⟨3, ![3, 1536, 1152]⟩
abbrev S3x1536 : Shape := ⟨2, ![3, 1536]⟩
abbrev S_ : Shape := ⟨0, ![]⟩
abbrev S1x1x1 : Shape := ⟨3, ![1, 1, 1]⟩
abbrev S3x1536x1 : Shape := ⟨3, ![3, 1536, 1]⟩
abbrev S3x1536x1536 : Shape := ⟨3, ![3, 1536, 1536]⟩
abbrev S3x1x1536 : Shape := ⟨3, ![3, 1, 1536]⟩

abbrev nBuf : Space → Nat
  | .hbm => 14
  | .vmem => 12
  | .smem => 0
  | _ => 0

abbrev bufTy : (tb : Table) → Fin (tcTables nBuf tb) → BufTy
  | .hbm, ⟨0, _⟩ => ⟨S3x1536x1152, .fp8e4m3⟩
  | .hbm, ⟨1, _⟩ => ⟨S3x1536, .f32⟩
  | .hbm, ⟨2, _⟩ => ⟨S3x1536x1152, .fp8e4m3⟩
  | .hbm, ⟨3, _⟩ => ⟨S3x1536, .f32⟩
  | .hbm, ⟨4, _⟩ => ⟨S3x1536, .i32⟩
  | .hbm, ⟨5, _⟩ => ⟨S_, .f32⟩
  | .hbm, ⟨6, _⟩ => ⟨S_, .f32⟩
  | .hbm, ⟨7, _⟩ => ⟨S1x1x1, .f32⟩
  | .hbm, ⟨8, _⟩ => ⟨S1x1x1, .f32⟩
  | .hbm, ⟨9, _⟩ => ⟨S3x1536, .f32⟩
  | .hbm, ⟨10, _⟩ => ⟨S3x1536x1152, .bf16⟩
  | .hbm, ⟨11, _⟩ => ⟨S3x1536x1152, .bf16⟩
  | .hbm, ⟨12, _⟩ => ⟨S3x1536, .f32⟩
  | .hbm, ⟨13, _⟩ => ⟨S3x1536, .f32⟩
  | .local _ .vmem, ⟨0, _⟩ => ⟨S3x1536x1152, .fp8e4m3⟩
  | .local _ .vmem, ⟨1, _⟩ => ⟨S3x1536, .f32⟩
  | .local _ .vmem, ⟨2, _⟩ => ⟨S3x1536x1152, .fp8e4m3⟩
  | .local _ .vmem, ⟨3, _⟩ => ⟨S3x1536, .f32⟩
  | .local _ .vmem, ⟨4, _⟩ => ⟨S3x1536, .i32⟩
  | .local _ .vmem, ⟨5, _⟩ => ⟨S1x1x1, .f32⟩
  | .local _ .vmem, ⟨6, _⟩ => ⟨S1x1x1, .f32⟩
  | .local _ .vmem, ⟨7, _⟩ => ⟨S3x1536, .f32⟩
  | .local _ .vmem, ⟨8, _⟩ => ⟨S3x1536x1152, .bf16⟩
  | .local _ .vmem, ⟨9, _⟩ => ⟨S3x1536x1152, .bf16⟩
  | .local _ .vmem, ⟨10, _⟩ => ⟨S3x1536, .f32⟩
  | .local _ .vmem, ⟨11, _⟩ => ⟨S3x1536, .f32⟩
  | _, _ => ⟨S3x1536x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S3x1536x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1536x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1536 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1536x1152 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1536x1152 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelRun.lean ====
/-
What one grid point of the printed kernel does to its buffers: the run of `Run.lean`, for the program before its three
constants are named.
-/
module

public import proofs.«01_k».proof.Proof.Gen.Kernel.Frame
public import proofs.«01_k».proof.Proof.Gen.Kernel.Loops
public import proofs.«01_k».proof.Proof.Gen.Kernel.Skeleton

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1500000 in
/-- The run of the body from staging buffers at known contents, with the stores it makes into each output. -/
noncomputable def run (c : Dev nD) (i : grid0.Coords) (arg1 : Memref sig .tc .smem S1x1 .f32) (harg1 : arg1.IsWhole) (arg2 : Memref sig .tc .smem S1x1 .f32) (harg2 : arg2.IsWhole) (arg3 : Memref sig .tc .vmem S3x1536 .f32) (harg3 : arg3.IsWhole) (arg4 : Memref sig .tc .vmem S3x1536 .f32) (harg4 : arg4.IsWhole) (arg5 : Memref sig .tc .vmem S3x1536 .i32) (harg5 : arg5.IsWhole) (arg6 : Memref sig .tc .vmem S1x1536x1152 .fp8e4m3) (harg6 : arg6.IsWhole) (arg7 : Memref sig .tc .vmem S1x1536x1152 .fp8e4m3) (harg7 : arg7.IsWhole) (arg8 : Memref sig .tc .vmem S3x1536 .f32) (harg8 : arg8.IsWhole) (arg9 : Memref sig .tc .vmem S1x1536x1152 .bf16) (harg9 : arg9.IsWhole) (arg10 : Memref sig .tc .vmem S1x1536x1152 .bf16) (harg10 : arg10.IsWhole) (arg11 : Memref sig .tc .vmem S3x1536 .f32) (harg11 : arg11.IsWhole) (arg12 : Memref sig .tc .vmem S3x1536 .f32) (harg12 : arg12.IsWhole) (arg13 : Memref sig .tc .vmem S1152x1536 .bf16) (harg13 : arg13.IsWhole) (arg14 : Memref sig .tc .vmem S1152x1536 .bf16) (harg14 : arg14.IsWhole) (arg15 : Memref sig .tc .vmem S2x1536x256 .bf16) (harg15 : arg15.IsWhole) (arg16 : Memref sig .tc .vmem S1152x1536 .f32) (harg16 : arg16.IsWhole) (arg17 : Memref sig .tc .vmem S1536x128 .f32) (harg17 : arg17.IsWhole) (arg18 : Memref sig .tc .vmem S1536x128 .i32) (harg18 : arg18.IsWhole)
    (x0 : Vec F S1x1 .f32) (x1 : Vec F S1x1 .f32) (x2 : Vec F S3x1536 .f32) (x3 : Vec F S3x1536 .f32) (x4 : Vec F S3x1536 .i32) (x5 : Vec F S1x1536x1152 .fp8e4m3) (x6 : Vec F S1x1536x1152 .fp8e4m3)
    (y7 y10 y11 : Vec F S3x1536 .f32) (s2 : Vec F S2x1536x256 .bf16) :
    Σ' (L7 : List (View.Piece (Elt F) S3x1536 .f32)) (L8 : List (View.Piece (Elt F) S1x1536x1152 .bf16)) (L9 : List (View.Piece (Elt F) S1x1536x1152 .bf16)) (L10 : List (View.Piece (Elt F) S3x1536 .f32)), { L11 : List (View.Piece (Elt F) S3x1536 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ (∃ d, owns (c : Thread nD τ) arg9 fullShare d) ∗ (∃ d, owns (c : Thread nD τ) arg10 fullShare d) ∗ owns (c : Thread nD τ) arg11 fullShare y10 ∗ owns (c : Thread nD τ) arg12 fullShare y11 ∗ (∃ d, owns (c : Thread nD τ) arg13 fullShare d) ∗ (∃ d, owns (c : Thread nD τ) arg14 fullShare d) ∗ owns (c : Thread nD τ) arg15 fullShare s2 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y7) L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread y10) L10) ∗ (arg12.view.loc (c : Thread nD τ) ↦[arg12.view.set]{fullShare} arg12.view.writes (Elt F) (harg12.unread y11) L11) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_siglip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
    refine ⟨?_, ?_, ?_, ?_, ?_, fun E K => ?run⟩
    case run =>
      simp only [cc0_siglip_eq_skeleton]; unfold cc0_siglip_skel
      simp only [k0_part241_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%ds0, %fs0, -, HS0⟩, ⟨%ds1, %fs1, -, HS1⟩, ⟨%fs2, %hfs2, HS2⟩, ⟨%ds3, %fs3, -, HS3⟩, ⟨%ds4, %fs4, -, HS4⟩, ⟨%ds5, %fs5, -, HS5⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg15.eq_unread hfs2
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexact H7
      isplitl [H8]
      · iexists _; iexact H8
      isplitl [H9]
      · iexists _; iexact H9
      isplitl [H10]
      · iexact H10
      isplitl [H11]
      · iexact H11
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      · iexists _, _; isplitr; swap; · iexact HS5
        ipureintro; rfl

end Cert.Kernel.Hand

end
-- ==== Proof.KernelBody.lean ====
/-
One grid point of the printed kernel under the pipeline, and its frame: every run ends with its arguments as launched.

The statements are those of `Body.lean`, for the program before its three constants are named.
-/
module

public import proofs.«01_k».proof.Proof.KernelRun
public import Idealize.ShloMosaic.Lib.Pipeline.DatRel
public import Idealize.ShloMosaic.Lib.Pipeline.ArrRel
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's operands -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x1536 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1536x1152 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536x1152 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1536x1152 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1536x1152 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x1536 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3x1536 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1152x1536 .bf16 := Memref.whole cc0_scratch0
abbrev scM0_1 : Memref sig .tc .vmem S1152x1536 .bf16 := Memref.whole cc0_scratch1
abbrev scM0_2 : Memref sig .tc .vmem S2x1536x256 .bf16 := Memref.whole cc0_scratch2
abbrev scM0_3 : Memref sig .tc .vmem S1152x1536 .f32 := Memref.whole cc0_scratch3
abbrev scM0_4 : Memref sig .tc .vmem S1536x128 .f32 := Memref.whole cc0_scratch4
abbrev scM0_5 : Memref sig .tc .vmem S1536x128 .i32 := Memref.whole cc0_scratch5

/-- The frame kit's invariant with the scratch operands as memrefs owned at some contents at some contents, as the body takes them and gives them back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The proof data -/

/-- The outputs, whose contents are held to a predicate. -/
def forgets0 : Fin 12 → Bool := fun w => w.val == 7 || w.val == 8 || w.val == 9 || w.val == 10 || w.val == 11

/-- The inputs' buffers hold their blocks; the scratch buffers hold anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The run at point `t`. -/
abbrev runAt (c : Dev nD) (t : Fin cfg0.N) (y7 y10 y11 : Vec F S3x1536 .f32) (s2 : Vec F S2x1536x256 .bf16) :=
  run (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t) (iblk m c 2 t) (iblk m c 3 t) (iblk m c 4 t) (iblk m c 5 t) (iblk m c 6 t) y7 y10 y11 s2

/-- A predicate of what each output's buffer holds after each point. -/
abbrev Rels (F : FTy → Type) := (w : Fin cfg0.W) → Fin cfg0.N → ((cfg0.win w).block.Idx → Elt F (cfg0.win w).elt) → Prop

/-- The proof data with the outputs held to `Rl`. -/
abbrev rdat (Rl : Dev nD → Rels F) (c : Dev nD) := (dats m 0 c).toRRel forgets0 (Rl c)

/-- The run's stores meet the predicate, whatever the point finds. -/
def Meets (Rl : Dev nD → Rels F) : Prop :=
  ∀ (c : Dev nD) (t : Fin cfg0.N) (y7 y10 y11 : Vec F S3x1536 .f32) (s2 : Vec F S2x1536x256 .bf16),
    (rdat m Rl c).Finds 7 t y7 → (rdat m Rl c).Finds 10 t y10 → (rdat m Rl c).Finds 11 t y11 →
    Rl c 7 t ((ms0_7 t).view.read (Elt F) ((ms0_7 t).view.writes (Elt F) ((hs0_7 t).unread y7) (runAt m c t y7 y10 y11 s2).1))
    ∧ (∀ f, Rl c 8 t ((ms0_8 t).view.read (Elt F) ((ms0_8 t).view.writes (Elt F) f (runAt m c t y7 y10 y11 s2).2.1)))
    ∧ (∀ f, Rl c 9 t ((ms0_9 t).view.read (Elt F) ((ms0_9 t).view.writes (Elt F) f (runAt m c t y7 y10 y11 s2).2.2.1)))
    ∧ Rl c 10 t ((ms0_10 t).view.read (Elt F) ((ms0_10 t).view.writes (Elt F) ((hs0_10 t).unread y10) (runAt m c t y7 y10 y11 s2).2.2.2.1))
    ∧ Rl c 11 t ((ms0_11 t).view.read (Elt F) ((ms0_11 t).view.writes (Elt F) ((hs0_11 t).unread y11) (runAt m c t y7 y10 y11 s2).2.2.2.2.1))

/-! ## The body at a point -/

/-- What the body is called with at point `t`, -/
def bodyPre (Rl : Dev nD → Rels F) (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m Rl c).Finds 7 t Y⌝ ∗ owns (c : Thread nD τ) (ms0_7 t) fullShare Y)
    ∗ (∃ Y, ⌜(rdat m Rl c).Finds 8 t Y⌝ ∗ owns (c : Thread nD τ) (ms0_8 t) fullShare Y)
    ∗ (∃ Y, ⌜(rdat m Rl c).Finds 9 t Y⌝ ∗ owns (c : Thread nD τ) (ms0_9 t) fullShare Y)
    ∗ (∃ Y, ⌜(rdat m Rl c).Finds 10 t Y⌝ ∗ owns (c : Thread nD τ) (ms0_10 t) fullShare Y)
    ∗ (∃ Y, ⌜(rdat m Rl c).Finds 11 t Y⌝ ∗ owns (c : Thread nD τ) (ms0_11 t) fullShare Y))

/-- and what it returns. -/
def bodyPost (Rl : Dev nD → Rels F) (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rl c 7 t X⌝ ∗ owns (c : Thread nD τ) (ms0_7 t) fullShare X)
    ∗ (∃ X, ⌜Rl c 8 t X⌝ ∗ owns (c : Thread nD τ) (ms0_8 t) fullShare X)
    ∗ (∃ X, ⌜Rl c 9 t X⌝ ∗ owns (c : Thread nD τ) (ms0_9 t) fullShare X)
    ∗ (∃ X, ⌜Rl c 10 t X⌝ ∗ owns (c : Thread nD τ) (ms0_10 t) fullShare X)
    ∗ (∃ X, ⌜Rl c 11 t X⌝ ∗ owns (c : Thread nD τ) (ms0_11 t) fullShare X))

variable {m}

set_option maxHeartbeats 1600000 in
theorem sound_body {Rl : Dev nD → Rels F} (hRl : Meets m Rl) (c : Dev nD) (t : Fin cfg0.N) :
    bodyPre m Rl c t ⊢ wp frame (wpE (defs₀ (F := F)) Variants.none c none) Set.univ (bodyAt0 t) (fun _ => bodyPost m Rl c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, ⟨%s2, HS2⟩, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩⟩
  obtain ⟨h7, h8, h9, h10, h11⟩ := hRl c t y7 y10 y11 s2 hy7 hy10 hy11
  iapply ((runAt m c t y7 y10 y11 s2).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%f8, H8⟩, ⟨%f9, H9⟩, H10, H11, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    · ipureintro; exact h7
    unfold owns
    iexists _; isplitr; swap; · iexact H7
    ipureintro; rfl
  isplitl [H8]
  · iexists _; isplitr
    · ipureintro; exact h8 f8
    unfold owns
    iexists _; isplitr; swap; · iexact H8
    ipureintro; rfl
  isplitl [H9]
  · iexists _; isplitr
    · ipureintro; exact h9 f9
    unfold owns
    iexists _; isplitr; swap; · iexact H9
    ipureintro; rfl
  isplitl [H10]
  · iexists _; isplitr
    · ipureintro; exact h10
    unfold owns
    iexists _; isplitr; swap; · iexact H10
    ipureintro; rfl
  · iexists _; isplitr
    · ipureintro; exact h11
    unfold owns
    iexists _; isplitr; swap; · iexact H11
    ipureintro; rfl

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation {Rl : Dev nD → Rels F} (hRl : Meets m Rl) (c : Dev nD) :
    BodyObligationRel (dats (F := F) m 0 c) (defs₀ (F := F)) Variants.none () Set.univ forgets0 (Rl c) := fun t => by
  rw [bigSep_W0, bigSep_W0, defs₀_row]
  exact triple_restated (sound_body hRl c t) rfl .rfl fun _ => .rfl

/-! ## The launch -/

set_option backward.isDefEq.respectTransparency.types false in
/-- Every run ends, its counters at zero, its inputs as they were, its outputs as the write-backs leave them. -/
theorem run_main {Rl : Dev nD → Rels F} (hRl : Meets m Rl) :
    θ_run defs (onTc (τ := τ) (main (F := F))) (s₀ m ρ)
      (fun r => (Pipeline.RDat.FramePost (cfgs 0) (rdat m Rl) (V m)) r ∧ r.2.sem = fun _ => 0) :=
  Pipeline.RDat.θ_run_frame (Q' := _) cfgs (0 : Fin 1) launch0 defs₀ Variants.none (rdat m Rl) m ρ main
    (hbody := fun c => (body_obligation hRl c).toRRel) (hshare := fun c => (dats m 0 c).share_full fun _ => rfl)
    (howed := fun _ _ => rfl) (V := V m) (hmain := hmain m Variants.none) (hA := A_eq m) (hΦ := fun _ _ => rfl)

/-- After the run each argument is as launched. -/
theorem kept {Rl : Dev nD → Rels F} {r : PUnit × MemSt nD τ sig (Elt F)}
    (h : Pipeline.RDat.FramePost (cfgs 0) (rdat m Rl) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(Pipeline.RDat.FramePost.arr_in h c 5 rfl).trans ((A_eq m c 5).trans (V_main_arg0 m c)),
    (Pipeline.RDat.FramePost.arr_in h c 2 rfl).trans ((A_eq m c 2).trans (V_main_arg1 m c)),
    (Pipeline.RDat.FramePost.arr_in h c 6 rfl).trans ((A_eq m c 6).trans (V_main_arg2 m c)),
    (Pipeline.RDat.FramePost.arr_in h c 3 rfl).trans ((A_eq m c 3).trans (V_main_arg3 m c)),
    (Pipeline.RDat.FramePost.arr_in h c 4 rfl).trans ((A_eq m c 4).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

variable (m) in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  have hRl : Meets m (fun _ _ _ _ => True) := fun _ _ _ _ _ _ _ _ _ => ⟨trivial, fun _ => trivial, fun _ => trivial, trivial, trivial⟩
  (θ_run defs _ _).mono (fun _ h => ⟨fun c => kept h.1 c, h.2⟩) (run_main ρ hRl)

end Cert.Kernel.Hand

end
-- ==== Proof.Run.lean ====
/-
What one grid point of the kernel does to its buffers.

The body is run once, over whole staging buffers: the inputs at their contents, the three outputs that stay resident over
the whole grid at the contents the point meets, the two gradient blocks at anything.  The run finds the stores each
output ends with; they are the witnesses of the statement, and the value files read them.
-/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: checking it walks past the default budget)
set_option maxHeartbeats 1500000 in
/-- The run of the body from staging buffers at known contents, with the stores it makes into each output. -/
noncomputable def run (c : Dev nD) (i : grid0.Coords) (arg1 : Memref sig .tc .smem S1x1 .f32) (harg1 : arg1.IsWhole) (arg2 : Memref sig .tc .smem S1x1 .f32) (harg2 : arg2.IsWhole) (arg3 : Memref sig .tc .vmem S3x1536 .f32) (harg3 : arg3.IsWhole) (arg4 : Memref sig .tc .vmem S3x1536 .f32) (harg4 : arg4.IsWhole) (arg5 : Memref sig .tc .vmem S3x1536 .i32) (harg5 : arg5.IsWhole) (arg6 : Memref sig .tc .vmem S1x1536x1152 .fp8e4m3) (harg6 : arg6.IsWhole) (arg7 : Memref sig .tc .vmem S1x1536x1152 .fp8e4m3) (harg7 : arg7.IsWhole) (arg8 : Memref sig .tc .vmem S3x1536 .f32) (harg8 : arg8.IsWhole) (arg9 : Memref sig .tc .vmem S1x1536x1152 .bf16) (harg9 : arg9.IsWhole) (arg10 : Memref sig .tc .vmem S1x1536x1152 .bf16) (harg10 : arg10.IsWhole) (arg11 : Memref sig .tc .vmem S3x1536 .f32) (harg11 : arg11.IsWhole) (arg12 : Memref sig .tc .vmem S3x1536 .f32) (harg12 : arg12.IsWhole) (arg13 : Memref sig .tc .vmem S1152x1536 .bf16) (harg13 : arg13.IsWhole) (arg14 : Memref sig .tc .vmem S1152x1536 .bf16) (harg14 : arg14.IsWhole) (arg15 : Memref sig .tc .vmem S2x1536x256 .bf16) (harg15 : arg15.IsWhole) (arg16 : Memref sig .tc .vmem S1152x1536 .f32) (harg16 : arg16.IsWhole) (arg17 : Memref sig .tc .vmem S1536x128 .f32) (harg17 : arg17.IsWhole) (arg18 : Memref sig .tc .vmem S1536x128 .i32) (harg18 : arg18.IsWhole)
    (x0 : Vec F S1x1 .f32) (x1 : Vec F S1x1 .f32) (x2 : Vec F S3x1536 .f32) (x3 : Vec F S3x1536 .f32) (x4 : Vec F S3x1536 .i32) (x5 : Vec F S1x1536x1152 .fp8e4m3) (x6 : Vec F S1x1536x1152 .fp8e4m3)
    (y7 y10 y11 : Vec F S3x1536 .f32) (s2 : Vec F S2x1536x256 .bf16) :
    Σ' (L7 : List (View.Piece (Elt F) S3x1536 .f32)) (L8 : List (View.Piece (Elt F) S1x1536x1152 .bf16)) (L9 : List (View.Piece (Elt F) S1x1536x1152 .bf16)) (L10 : List (View.Piece (Elt F) S3x1536 .f32)), { L11 : List (View.Piece (Elt F) S3x1536 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ (∃ d, owns (c : Thread nD τ) arg9 fullShare d) ∗ (∃ d, owns (c : Thread nD τ) arg10 fullShare d) ∗ owns (c : Thread nD τ) arg11 fullShare y10 ∗ owns (c : Thread nD τ) arg12 fullShare y11 ∗ (∃ d, owns (c : Thread nD τ) arg13 fullShare d) ∗ (∃ d, owns (c : Thread nD τ) arg14 fullShare d) ∗ owns (c : Thread nD τ) arg15 fullShare s2 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y7) L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread y10) L10) ∗ (arg12.view.loc (c : Thread nD τ) ↦[arg12.view.set]{fullShare} arg12.view.writes (Elt F) (harg12.unread y11) L11) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_siglip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
    refine ⟨?_, ?_, ?_, ?_, ?_, fun E K => ?run⟩
    case run =>
      simp only [cc0_siglip_eq_skeleton]; unfold cc0_siglip_skel
      simp only [k0_part241_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%ds0, %fs0, -, HS0⟩, ⟨%ds1, %fs1, -, HS1⟩, ⟨%fs2, %hfs2, HS2⟩, ⟨%ds3, %fs3, -, HS3⟩, ⟨%ds4, %fs4, -, HS4⟩, ⟨%ds5, %fs5, -, HS5⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg15.eq_unread hfs2
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexact H7
      isplitl [H8]
      · iexists _; iexact H8
      isplitl [H9]
      · iexists _; iexact H9
      isplitl [H10]
      · iexact H10
      isplitl [H11]
      · iexact H11
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      · iexists _, _; isplitr; swap; · iexact HS5
        ipureintro; rfl

end Cert.KernelIdeal.Hand

end
-- ==== Proof.Body.lean ====
/-
One grid point under the pipeline: the body, handed its buffers, gives them back with what its stores leave there.

The statement is over any predicate of what the five outputs' buffers hold after a point; it asks that the run's stores meet it.
-/
module

public import proofs.«01_k».proof.Proof.Run
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's operands -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x1536 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1536x1152 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536x1152 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1536x1152 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1536x1152 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x1536 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3x1536 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1152x1536 .bf16 := Memref.whole cc0_scratch0
abbrev scM0_1 : Memref sig .tc .vmem S1152x1536 .bf16 := Memref.whole cc0_scratch1
abbrev scM0_2 : Memref sig .tc .vmem S2x1536x256 .bf16 := Memref.whole cc0_scratch2
abbrev scM0_3 : Memref sig .tc .vmem S1152x1536 .f32 := Memref.whole cc0_scratch3
abbrev scM0_4 : Memref sig .tc .vmem S1536x128 .f32 := Memref.whole cc0_scratch4
abbrev scM0_5 : Memref sig .tc .vmem S1536x128 .i32 := Memref.whole cc0_scratch5

/-- The frame kit's invariant with the scratch operands as memrefs owned at some contents at some contents, as the body takes them and gives them back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The proof data -/

/-- The outputs, whose contents are held to a predicate. -/
def forgets0 : Fin 12 → Bool := fun w => w.val == 7 || w.val == 8 || w.val == 9 || w.val == 10 || w.val == 11

/-- The inputs' buffers hold their blocks; the scratch buffers hold anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The run at point `t`. -/
abbrev runAt (c : Dev nD) (t : Fin cfg0.N) (y7 y10 y11 : Vec F S3x1536 .f32) (s2 : Vec F S2x1536x256 .bf16) :=
  run (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t) (iblk m c 2 t) (iblk m c 3 t) (iblk m c 4 t) (iblk m c 5 t) (iblk m c 6 t) y7 y10 y11 s2

/-- A predicate of what each output's buffer holds after each point. -/
abbrev Rels (F : FTy → Type) := (w : Fin cfg0.W) → Fin cfg0.N → ((cfg0.win w).block.Idx → Elt F (cfg0.win w).elt) → Prop

/-- The proof data with the outputs held to `Rl`. -/
abbrev rdat (Rl : Dev nD → Rels F) (c : Dev nD) := (dats m 0 c).toRRel forgets0 (Rl c)

/-- The run's stores meet the predicate, whatever the point finds. -/
def Meets (Rl : Dev nD → Rels F) : Prop :=
  ∀ (c : Dev nD) (t : Fin cfg0.N) (y7 y10 y11 : Vec F S3x1536 .f32) (s2 : Vec F S2x1536x256 .bf16),
    (rdat m Rl c).Finds 7 t y7 → (rdat m Rl c).Finds 10 t y10 → (rdat m Rl c).Finds 11 t y11 →
    Rl c 7 t ((ms0_7 t).view.read (Elt F) ((ms0_7 t).view.writes (Elt F) ((hs0_7 t).unread y7) (runAt m c t y7 y10 y11 s2).1))
    ∧ (∀ f, Rl c 8 t ((ms0_8 t).view.read (Elt F) ((ms0_8 t).view.writes (Elt F) f (runAt m c t y7 y10 y11 s2).2.1)))
    ∧ (∀ f, Rl c 9 t ((ms0_9 t).view.read (Elt F) ((ms0_9 t).view.writes (Elt F) f (runAt m c t y7 y10 y11 s2).2.2.1)))
    ∧ Rl c 10 t ((ms0_10 t).view.read (Elt F) ((ms0_10 t).view.writes (Elt F) ((hs0_10 t).unread y10) (runAt m c t y7 y10 y11 s2).2.2.2.1))
    ∧ Rl c 11 t ((ms0_11 t).view.read (Elt F) ((ms0_11 t).view.writes (Elt F) ((hs0_11 t).unread y11) (runAt m c t y7 y10 y11 s2).2.2.2.2.1))

/-! ## The body at a point -/

/-- What the body is called with at point `t`, -/
def bodyPre (Rl : Dev nD → Rels F) (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m Rl c).Finds 7 t Y⌝ ∗ owns (c : Thread nD τ) (ms0_7 t) fullShare Y)
    ∗ (∃ Y, ⌜(rdat m Rl c).Finds 8 t Y⌝ ∗ owns (c : Thread nD τ) (ms0_8 t) fullShare Y)
    ∗ (∃ Y, ⌜(rdat m Rl c).Finds 9 t Y⌝ ∗ owns (c : Thread nD τ) (ms0_9 t) fullShare Y)
    ∗ (∃ Y, ⌜(rdat m Rl c).Finds 10 t Y⌝ ∗ owns (c : Thread nD τ) (ms0_10 t) fullShare Y)
    ∗ (∃ Y, ⌜(rdat m Rl c).Finds 11 t Y⌝ ∗ owns (c : Thread nD τ) (ms0_11 t) fullShare Y))

/-- and what it returns. -/
def bodyPost (Rl : Dev nD → Rels F) (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rl c 7 t X⌝ ∗ owns (c : Thread nD τ) (ms0_7 t) fullShare X)
    ∗ (∃ X, ⌜Rl c 8 t X⌝ ∗ owns (c : Thread nD τ) (ms0_8 t) fullShare X)
    ∗ (∃ X, ⌜Rl c 9 t X⌝ ∗ owns (c : Thread nD τ) (ms0_9 t) fullShare X)
    ∗ (∃ X, ⌜Rl c 10 t X⌝ ∗ owns (c : Thread nD τ) (ms0_10 t) fullShare X)
    ∗ (∃ X, ⌜Rl c 11 t X⌝ ∗ owns (c : Thread nD τ) (ms0_11 t) fullShare X))

variable {m}

set_option maxHeartbeats 1600000 in
theorem sound_body {Rl : Dev nD → Rels F} (hRl : Meets m Rl) (c : Dev nD) (t : Fin cfg0.N) :
    bodyPre m Rl c t ⊢ wp frame (wpE (defs₀ (F := F)) Variants.none c none) Set.univ (bodyAt0 t) (fun _ => bodyPost m Rl c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, ⟨%s2, HS2⟩, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩⟩
  obtain ⟨h7, h8, h9, h10, h11⟩ := hRl c t y7 y10 y11 s2 hy7 hy10 hy11
  iapply ((runAt m c t y7 y10 y11 s2).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%f8, H8⟩, ⟨%f9, H9⟩, H10, H11, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    · ipureintro; exact h7
    unfold owns
    iexists _; isplitr; swap; · iexact H7
    ipureintro; rfl
  isplitl [H8]
  · iexists _; isplitr
    · ipureintro; exact h8 f8
    unfold owns
    iexists _; isplitr; swap; · iexact H8
    ipureintro; rfl
  isplitl [H9]
  · iexists _; isplitr
    · ipureintro; exact h9 f9
    unfold owns
    iexists _; isplitr; swap; · iexact H9
    ipureintro; rfl
  isplitl [H10]
  · iexists _; isplitr
    · ipureintro; exact h10
    unfold owns
    iexists _; isplitr; swap; · iexact H10
    ipureintro; rfl
  · iexists _; isplitr
    · ipureintro; exact h11
    unfold owns
    iexists _; isplitr; swap; · iexact H11
    ipureintro; rfl

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation {Rl : Dev nD → Rels F} (hRl : Meets m Rl) (c : Dev nD) :
    BodyObligationRel (dats (F := F) m 0 c) (defs₀ (F := F)) Variants.none () Set.univ forgets0 (Rl c) := fun t => by
  rw [bigSep_W0, bigSep_W0, defs₀_row]
  exact triple_restated (sound_body hRl c t) rfl .rfl fun _ => .rfl

/-! ## The launch -/

set_option backward.isDefEq.respectTransparency.types false in
/-- Every run ends, its counters at zero, its inputs as they were, its outputs as the write-backs leave them. -/
theorem run_main {Rl : Dev nD → Rels F} (hRl : Meets m Rl) :
    θ_run defs (onTc (τ := τ) (main (F := F))) (s₀ m ρ)
      (fun r => (Pipeline.RDat.FramePost (cfgs 0) (rdat m Rl) (V m)) r ∧ r.2.sem = fun _ => 0) :=
  Pipeline.RDat.θ_run_frame (Q' := _) cfgs (0 : Fin 1) launch0 defs₀ Variants.none (rdat m Rl) m ρ main
    (hbody := fun c => (body_obligation hRl c).toRRel) (hshare := fun c => (dats m 0 c).share_full fun _ => rfl)
    (howed := fun _ _ => rfl) (V := V m) (hmain := hmain m Variants.none) (hA := A_eq m) (hΦ := fun _ _ => rfl)

/-- After the run each argument is as launched. -/
theorem kept {Rl : Dev nD → Rels F} {r : PUnit × MemSt nD τ sig (Elt F)}
    (h : Pipeline.RDat.FramePost (cfgs 0) (rdat m Rl) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(Pipeline.RDat.FramePost.arr_in h c 5 rfl).trans ((A_eq m c 5).trans (V_main_arg0 m c)),
    (Pipeline.RDat.FramePost.arr_in h c 2 rfl).trans ((A_eq m c 2).trans (V_main_arg1 m c)),
    (Pipeline.RDat.FramePost.arr_in h c 6 rfl).trans ((A_eq m c 6).trans (V_main_arg2 m c)),
    (Pipeline.RDat.FramePost.arr_in h c 3 rfl).trans ((A_eq m c 3).trans (V_main_arg3 m c)),
    (Pipeline.RDat.FramePost.arr_in h c 4 rfl).trans ((A_eq m c 4).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

variable (m) in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  have hRl : Meets m (fun _ _ _ _ => True) := fun _ _ _ _ _ _ _ _ _ => ⟨trivial, fun _ => trivial, fun _ => trivial, trivial, trivial⟩
  (θ_run defs _ _).mono (fun _ h => ⟨fun c => kept h.1 c, h.2⟩) (run_main ρ hRl)

end Cert.KernelIdeal.Hand

end
-- ==== Proof.Row.lean ====
/-
One block of the gate computation, written once.

The kernel walks a 256 x 256 tile of logits eight rows at a time, thirty-two times, and carries four sums over the rows:
the linear part of the softplus, the product of the terms `1 + e` whose logarithm is the rest of it, and the two sums
whose totals are the gradients of the temperature and of the bias.  This file states one step of that walk, and the
whole walk, as functions of the tile, for any value semantics.
-/
module

public import proofs.«01_k».proof.Proof.Gen.KernelIdeal.Loops

@[expose] public section

noncomputable section

namespace Cert.KernelIdeal.Hand

open Idealize.ShloMosaic Cert.KernelIdeal.Gen

variable {F : FTy → Type} [FloatOps F] [Named F]

/-- Eight rows of a 256 x 256 tile, cut out at row `8 n`. -/
theorem slicesRow (n : Fin 32) : S256x256.Slices ![8 * n.val, 0] S8x256 := by
  revert n; decide

/-- The rows of a tile in the order of the walk. -/
abbrev rows : List (Fin 32) :=
  [⟨0, by omega⟩, ⟨1, by omega⟩, ⟨2, by omega⟩, ⟨3, by omega⟩, ⟨4, by omega⟩, ⟨5, by omega⟩, ⟨6, by omega⟩, ⟨7, by omega⟩, ⟨8, by omega⟩, ⟨9, by omega⟩, ⟨10, by omega⟩, ⟨11, by omega⟩, ⟨12, by omega⟩, ⟨13, by omega⟩, ⟨14, by omega⟩, ⟨15, by omega⟩, ⟨16, by omega⟩, ⟨17, by omega⟩, ⟨18, by omega⟩, ⟨19, by omega⟩, ⟨20, by omega⟩, ⟨21, by omega⟩, ⟨22, by omega⟩, ⟨23, by omega⟩, ⟨24, by omega⟩, ⟨25, by omega⟩, ⟨26, by omega⟩, ⟨27, by omega⟩, ⟨28, by omega⟩, ⟨29, by omega⟩, ⟨30, by omega⟩, ⟨31, by omega⟩]

/-- Thirty-two blocks of eight rows lie along the rows of a 256 x 256 tile. -/
theorem concatRows (G : Fin 32 → FVec F S8x256 .f32) :
    Shape.Concatenates ((rows.map fun n => (⟨S8x256, G n⟩ : (s : Shape) × (s.Idx → F .f32))).map (·.1)) S256x256 0 :=
  Gen.facts.concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0

/-- The scaled products of eight rows: the raw product times the column's scale times the row's. -/
def rV (sxt : FVec F S1x256 .f32) (raw : FVec F S256x256 .f32) (n : Fin 32) (sy : Vec F S8x128 .f32) : FVec F S8x256 .f32 :=
  mulf (mulf (extractStridedSlice S8x256 ![8 * n.val, 0] raw (slicesRow n)) (broadcastTo S8x256 sxt Gen.facts.broadcasts_S1x256_S8x256))
    (concatenate S8x256 1 [⟨S8x128, sy⟩, ⟨S8x128, sy⟩] Gen.facts.concatenates_S8x128_S8x128_S8x256_d1)

/-- Which entries of eight rows carry equal ids. -/
def rSame (idi : IVec S1x256 32) (idj : Vec F S8x128 .i32) : IVec S8x256 1 :=
  cmpi .eq (concatenate (α := BitVec 32) S8x256 1 [⟨S8x128, idj⟩, ⟨S8x128, idj⟩] Gen.facts.concatenates_S8x128_S8x128_S8x256_d1)
    (broadcastTo S8x256 idi Gen.facts.broadcasts_S1x256_S8x256)

/-- The signed logit, from the scaled product, the bias and the mask. -/
def rU (b2 : F .f32) (v : FVec F S8x256 .f32) (same : IVec S8x256 1) : FVec F S8x256 .f32 :=
  select same (subf (broadcast S8x256 (Scalar.ofBits .f32 0x00000000#32)) (addf v (broadcast S8x256 b2)))
    (addf v (broadcast S8x256 b2))

/-- Two to the power of minus the signed logit's size. -/
def rE (u : FVec F S8x256 .f32) : FVec F S8x256 .f32 :=
  exp2 (subf (broadcast S8x256 (Scalar.ofBits .f32 0x00000000#32)) (absf u))

/-- One over `1 + e`, divided by the length of a row. -/
def rR (u : FVec F S8x256 .f32) : FVec F S8x256 .f32 :=
  mulf (divf (broadcast S8x256 (Scalar.ofBits .f32 0x3F800000#32)) (addf (broadcast S8x256 (Scalar.ofBits .f32 0x3F800000#32)) (rE u)))
    (broadcast S8x256 (Named.named κ "inv_s" 0x3A2AAAAB#32))

/-- The sigmoid of the signed logit, divided by the length of a row. -/
def rSig (u : FVec F S8x256 .f32) : FVec F S8x256 .f32 :=
  select (cmpf .oge u (broadcast S8x256 (Scalar.ofBits .f32 0x00000000#32))) (rR u) (mulf (rE u) (rR u))

/-- The gate: the sigmoid with the sign the mask gives it. -/
def rG (u : FVec F S8x256 .f32) (same : IVec S8x256 1) : FVec F S8x256 .f32 :=
  select same (subf (broadcast S8x256 (Scalar.ofBits .f32 0x00000000#32)) (rSig u)) (rSig u)

/-- What the running product gains from eight rows: `q + e (1 + q)`. -/
def rQ (q u : FVec F S8x256 .f32) : FVec F S8x256 .f32 :=
  addf q (mulf (rE u) (addf (broadcast S8x256 (Scalar.ofBits .f32 0x3F800000#32)) q))

/-- The logarithm of one plus the tile's product, in base two, with the correction for the rounding of `1 + q`. -/
def rLog (q : FVec F S8x256 .f32) : FVec F S8x256 .f32 :=
  let w := addf (broadcast S8x256 (Scalar.ofBits .f32 0x3F800000#32)) q
  addf (mulf (log w) (broadcast S8x256 (Named.named κ "log2e" 0x3FB8AA3B#32)))
    (mulf (subf q (subf w (broadcast S8x256 (Scalar.ofBits .f32 0x3F800000#32))))
      (divf (broadcast S8x256 (Named.named κ "log2e" 0x3FB8AA3B#32)) w))

/-- Row block `a` of the images: its columns of a row of the batch. -/
theorem slicesBlock (a : Fin 6) : S1x1536.Slices ![0, 256 * a.val] S1x256 := by
  revert a; decide

/-- The images' codes of a row block, as a matrix. -/
def xTile (x : Vec F S1x256x1152 .fp8e4m3) : FVec F S256x1152 .fp8e4m3 :=
  shapeCast S256x1152 x Gen.facts.shapeCasts_S1x256x1152_S256x1152

/-- The raw products of a block of texts with a block of images. -/
def rawTile (x : FVec F S256x1152 .fp8e4m3) (y : Vec F S1x256x1152 .fp8e4m3) : FVec F S256x256 .f32 :=
  matmul dot_S256x1152_S256x1152_S256x256_1_1_0_0_n_n none (xTile y) x (constant S256x256 .f32 0x00000000#32)

/-- The images' scales of row block `a`, times the temperature and log2 e. -/
def sxt (a : Fin 6) (t : FVec F S1x1 .f32) (sx : Vec F S1x1536 .f32) : FVec F S1x256 .f32 :=
  mulf (extractStridedSlice S1x256 ![0, 256 * a.val] sx (slicesBlock a))
    (broadcastTo S1x256 (mulf t (broadcast S1x1 (Named.named κ "log2e" 0x3FB8AA3B#32))) Gen.facts.broadcasts_S1x1_S1x256)

/-- The images' ids of row block `a`. -/
def idi (a : Fin 6) (ids : Vec F S1x1536 .i32) : IVec S1x256 32 :=
  extractStridedSlice (α := BitVec 32) S1x256 ![0, 256 * a.val] ids (slicesBlock a)

section tile
variable (sxt : FVec F S1x256 .f32) (idi : IVec S1x256 32) (b2 : F .f32) (raw : FVec F S256x256 .f32)
  (sy : Fin 32 → Vec F S8x128 .f32) (idj : Fin 32 → Vec F S8x128 .i32)

/-- Step `n`'s scaled products, -/
def tV (n : Fin 32) : FVec F S8x256 .f32 := rV sxt raw n (sy n)
/-- its signed logits, -/
def tU (n : Fin 32) : FVec F S8x256 .f32 := rU b2 (tV sxt raw sy n) (rSame idi (idj n))
/-- and its gates. -/
def tG (n : Fin 32) : FVec F S8x256 .f32 := rG (tU sxt idi b2 raw sy idj n) (rSame idi (idj n))

/-- The four sums after a tile, from those before it. -/
def tileR (acc : FVec F S8x256 .f32 × FVec F S8x256 .f32 × FVec F S8x256 .f32 × FVec F S8x256 .f32) :
    FVec F S8x256 .f32 × FVec F S8x256 .f32 × FVec F S8x256 .f32 × FVec F S8x256 .f32 :=
  (rows.foldl (fun a n => addf a (maximumf (tU sxt idi b2 raw sy idj n) (broadcast S8x256 (Scalar.ofBits .f32 0x00000000#32)))) acc.1,
   addf acc.2.1 (rLog (rows.foldl (fun q n => rQ q (tU sxt idi b2 raw sy idj n)) (broadcast S8x256 (Scalar.ofBits .f32 0x00000000#32)))),
   rows.foldl (fun a n => addf a (mulf (tG sxt idi b2 raw sy idj n) (tV sxt raw sy n))) acc.2.2.1,
   rows.foldl (fun a n => addf a (tG sxt idi b2 raw sy idj n)) acc.2.2.2)

/-- The tile of gates. -/
def tileG : FVec F S1x256x256 .bf16 :=
  shapeCast S1x256x256 (truncf .bf16 (concatenate S256x256 0 (rows.map fun n => ⟨S8x256, tG sxt idi b2 raw sy idj n⟩)
    (concatRows fun n => tG sxt idi b2 raw sy idj n)) Gen.facts.bitsLt_bf16_f32) Gen.facts.shapeCasts_S256x256_S1x256x256

end tile

end Cert.KernelIdeal.Hand

end
-- ==== Proof.Scalar.lean ====
/-
The mathematics of one pair of an image and a text, over the extended reals.

The kernel works in powers of two: it scales a logit by `1 / log 2` and takes `exp2` of it.  This file shows that its gate
and its softplus are the reference's, for every logit, the infinite ones among them.
-/
module

public import proofs.«01_k».proof.KernelIdeal
public import Idealize.ShloMosaic.Lib.Pointwise

@[expose] public section

noncomputable section

namespace Cert.Siglip

open Idealize.ShloMosaic

/-- `1 / log 2`, as the kernel names it. -/
abbrev c2e : Ideal .f32 := Named.named Cert.KernelIdeal.κ "log2e" 1069066811#32
/-- `log 2`, as the kernel names it. -/
abbrev cln2 : Ideal .f32 := Named.named Cert.KernelIdeal.κ "ln2" 1060205080#32
/-- `1 / 1536`, as the kernel names it. -/
abbrev cinv : Ideal .f32 := Named.named Cert.KernelIdeal.κ "inv_s" 975874731#32

theorem c2e_eq : c2e = (((Real.log 2)⁻¹ : ℝ) : EReal) := IdealRules.named_const.ideal_named_scalar _ _ _ _ rfl
theorem cln2_eq : cln2 = ((Real.log 2 : ℝ) : EReal) := IdealRules.named_const.ideal_named_scalar _ _ _ _ rfl
theorem cinv_eq : cinv = (((1 : ℝ) / 1536 : ℝ) : EReal) := IdealRules.named_const.ideal_named_scalar _ _ _ _ rfl

/-- The kernel's exponential of a scaled logit. -/
def ke (u : EReal) : EReal := FloatOps.exp2 (F := Ideal) (φ := .f32) (0 - FloatOps.absf (F := Ideal) (φ := .f32) u)
/-- The kernel's sigmoid over the row length. -/
def ksig (u : EReal) : EReal :=
  if 0 ≤ u then Ideal.div 1 (1 + ke u) * cinv else ke u * (Ideal.div 1 (1 + ke u) * cinv)
/-- The kernel's gate. -/
def kg (u : EReal) (p : BitVec 1) : EReal := Scalar.select p (0 - ksig u) (ksig u)

/-- The sign of a logit. -/
def sgn (p : BitVec 1) (l : EReal) : EReal := Scalar.select p (0 - l) l

/-- The reference's softplus. -/
def sp (s : EReal) : EReal :=
  if s - 0 ≠ s - 0 then s + 0 else max s 0 + Ideal.log1p (Ideal.exp (0 - FloatOps.absf (F := Ideal) (φ := .f32) (s - 0)))
/-- The reference's gate. -/
def gate (p : BitVec 1) (l : EReal) : EReal :=
  Ideal.div (Ideal.logistic l - FloatOps.sitofp (F := Ideal) FTy.f32 (BitVec.setWidth 32 p)) (Ideal.ofBits FTy.f32 1153433600#32)

/-- `exp (-|s|)` as a real number. -/
def er (s : EReal) : ℝ := match s with
  | ⊥ => 0
  | ⊤ => 0
  | (r : ℝ) => Real.exp (-|r|)

@[simp] theorem er_bot : er ⊥ = 0 := rfl
@[simp] theorem er_top : er ⊤ = 0 := rfl
theorem er_coe (r : ℝ) : er (r : EReal) = Real.exp (-|r|) := rfl

theorem coe_max (a b : ℝ) : ((max a b : ℝ) : EReal) = max (a : EReal) (b : EReal) :=
  EReal.coe_strictMono.monotone.map_max

theorem er_nonneg (s : EReal) : 0 ≤ er s := by
  induction s with
  | bot => exact le_refl _
  | top => exact le_refl _
  | coe r => exact (Real.exp_pos _).le

theorem log2_pos : 0 < Real.log 2 := Real.log_pos (by norm_num)

theorem ke_scaled (s : EReal) : ke (c2e * s) = (er s : EReal) := by
  have hp : (0 : ℝ) < (Real.log 2)⁻¹ := inv_pos.mpr log2_pos
  unfold ke
  rw [c2e_eq, Ideal.absf_def]
  induction s with
  | bot => rw [EReal.coe_mul_bot_of_pos hp]; simp; rfl
  | top => rw [EReal.coe_mul_top_of_pos hp]; simp; rfl
  | coe r =>
    rw [← EReal.coe_mul, ← EReal.coe_neg, ← coe_max, zero_sub, ← EReal.coe_neg]
    show Ideal.exp2 _ = _
    rw [Ideal.exp2_coe]
    congr 1
    show (2 : ℝ) ^ (_ : ℝ) = Real.exp (-|r|)
    rw [Real.rpow_def_of_pos (by norm_num)]
    congr 1
    rw [show max ((Real.log 2)⁻¹ * r) (-((Real.log 2)⁻¹ * r)) = |(Real.log 2)⁻¹ * r| from rfl, abs_mul, abs_of_pos hp]
    field_simp

theorem log_one : Ideal.log 1 = 0 := by
  rw [← EReal.coe_one, Ideal.log_coe, if_neg (by norm_num), Real.log_one, EReal.coe_zero]

theorem sp_eq (s : EReal) : sp s = max s 0 + ((Real.log (1 + er s) : ℝ) : EReal) := by
  unfold sp
  rw [if_neg (fun h => h rfl)]
  congr 1
  rw [Ideal.absf_def, sub_zero]
  unfold Ideal.log1p
  induction s with
  | bot => rw [er_bot, EReal.neg_bot, max_eq_right bot_le, zero_sub, EReal.neg_top, Ideal.exp_bot]; simp [log_one]
  | top => rw [er_top, EReal.neg_top, max_eq_left bot_le, zero_sub, EReal.neg_top, Ideal.exp_bot]; simp [log_one]
  | coe r =>
    rw [← EReal.coe_neg, ← coe_max, zero_sub, ← EReal.coe_neg, Ideal.exp_coe, ← EReal.coe_one, ← EReal.coe_add,
      Ideal.log_coe, if_neg (not_le.mpr (by positivity))]
    rfl

/-- The kernel's two parts of a softplus, times `log 2`, are the reference's softplus. -/
theorem soft_scaled (s : EReal) :
    cln2 * (max (c2e * s) 0 + ((Real.log (1 + er s) : ℝ) : EReal) * c2e) = sp s := by
  have hp : (0 : ℝ) < (Real.log 2)⁻¹ := inv_pos.mpr log2_pos
  have hl : (0 : ℝ) < Real.log 2 := log2_pos
  rw [sp_eq, c2e_eq, cln2_eq]
  have h1 : ((Real.log 2 : ℝ) : EReal) * (((Real.log (1 + er s) : ℝ) : EReal) * (((Real.log 2)⁻¹ : ℝ) : EReal))
      = ((Real.log (1 + er s) : ℝ) : EReal) := by
    rw [← EReal.coe_mul, ← EReal.coe_mul]; congr 1; field_simp
  have h2 : ((Real.log 2 : ℝ) : EReal) * max ((((Real.log 2)⁻¹ : ℝ) : EReal) * s) 0 = max s 0 := by
    induction s with
    | bot => rw [EReal.coe_mul_bot_of_pos hp]; simp
    | top => rw [EReal.coe_mul_top_of_pos hp]; simp [EReal.coe_mul_top_of_pos hl]
    | coe r =>
      rw [← EReal.coe_mul, ← EReal.coe_zero, ← coe_max, ← coe_max, ← EReal.coe_mul]
      congr 1
      rw [mul_max_of_nonneg _ _ hl.le, mul_zero, ← mul_assoc, mul_inv_cancel₀ hl.ne', one_mul]
  rw [EReal.left_distrib_of_nonneg_of_ne_top (by exact_mod_cast hl.le) (EReal.coe_ne_top _), h1, h2]

theorem ksig_scaled (s : EReal) : ksig (c2e * s) = Ideal.logistic s * cinv := by
  have hp : (0 : ℝ) < (Real.log 2)⁻¹ := inv_pos.mpr log2_pos
  unfold ksig
  rw [ke_scaled]
  have hd : Ideal.div 1 (1 + (er s : EReal)) = ((1 / (1 + er s) : ℝ) : EReal) := by
    have h := er_nonneg s
    rw [show (1 : EReal) + (er s : EReal) = ((1 + er s : ℝ) : EReal) by rw [EReal.coe_add, EReal.coe_one],
      Ideal.div_coe (by positivity), one_mul]
  rw [hd]
  induction s with
  | bot =>
    rw [c2e_eq, EReal.coe_mul_bot_of_pos hp, if_neg (by simp), Ideal.logistic_bot]
    simp
  | top =>
    rw [c2e_eq, EReal.coe_mul_top_of_pos hp, if_pos le_top, Ideal.logistic_top]
    simp
  | coe r =>
    rw [c2e_eq, ← EReal.coe_mul, Ideal.logistic_coe]
    by_cases h : 0 ≤ r
    · rw [if_pos (by exact_mod_cast (mul_nonneg hp.le h))]
      congr 2
      show 1 / (1 + Real.exp (-|r|)) = _
      rw [abs_of_nonneg h, one_div]
    · rw [if_neg (by
        intro h0
        exact h (nonneg_of_mul_nonneg_right (by exact_mod_cast h0) hp)), ← mul_assoc, ← EReal.coe_mul]
      congr 2
      show Real.exp (-|r|) * (1 / (1 + Real.exp (-|r|))) = _
      rw [abs_of_neg (not_le.mp h), neg_neg, Real.exp_neg]
      have := Real.exp_pos r
      field_simp
      ring

theorem ofBits_1536 : Ideal.ofBits FTy.f32 1153433600#32 = ((1536 : ℝ) : EReal) := by
  simp [Ideal.ofBits, Ideal.ieee, -EReal.coe_mul]; norm_num

/-- The kernel's gate is the reference's. -/
theorem kg_scaled (p : BitVec 1) (l : EReal) : kg (c2e * sgn p l) p = gate p l := by
  unfold kg gate
  rw [ksig_scaled, ofBits_1536, Ideal.div_coe (by norm_num), cinv_eq]
  unfold sgn Scalar.select
  by_cases h : p = 1
  · subst h
    rw [if_pos rfl, if_pos rfl]
    rw [show FloatOps.sitofp (F := Ideal) FTy.f32 (BitVec.setWidth 32 (1 : BitVec 1)) = ((1 : ℝ) : EReal) from by
      show ((((BitVec.setWidth 32 (1 : BitVec 1)).toInt : ℤ) : ℝ) : EReal) = _
      rw [show (BitVec.setWidth 32 (1 : BitVec 1)).toInt = 1 from by decide]; norm_num]
    rw [zero_sub, zero_sub]
    induction l with
    | bot => simp
    | top => rw [EReal.neg_top, Ideal.logistic_bot, Ideal.logistic_top, ← EReal.coe_one, ← EReal.coe_sub, sub_self]; simp
    | coe r =>
      rw [← EReal.coe_neg, Ideal.logistic_coe, Ideal.logistic_coe, neg_neg, ← EReal.coe_sub, ← EReal.coe_mul, ← EReal.coe_mul, ← EReal.coe_neg]
      congr 1
      have := Real.exp_pos r
      rw [Real.exp_neg]
      field_simp
      ring
  · have h0 : p = 0 := by revert h; revert p; decide
    subst h0
    rw [if_neg (by decide), if_neg (by decide)]
    rw [show FloatOps.sitofp (F := Ideal) FTy.f32 (BitVec.setWidth 32 (0 : BitVec 1)) = ((0 : ℝ) : EReal) from by
      show ((((BitVec.setWidth 32 (0 : BitVec 1)).toInt : ℤ) : ℝ) : EReal) = _
      norm_num]
    rw [EReal.coe_zero, sub_zero]

/-- The kernel's scaled logit, given its sign. -/
theorem ku_scaled (p : BitVec 1) (raw sx sy T B : EReal) :
    Scalar.select p (0 - (raw * (sx * (T * c2e)) * sy + B * c2e)) (raw * (sx * (T * c2e)) * sy + B * c2e)
      = c2e * sgn p (T * (raw * sx * sy) + B) := by
  have hp : (0 : ℝ) < (Real.log 2)⁻¹ := inv_pos.mpr log2_pos
  have h : raw * (sx * (T * c2e)) * sy + B * c2e = c2e * (T * (raw * sx * sy) + B) := by
    rw [show c2e * (T * (raw * sx * sy) + B) = c2e * (T * (raw * sx * sy)) + c2e * B by
      rw [c2e_eq]; exact EReal.left_distrib_of_nonneg_of_ne_top (by exact_mod_cast hp.le) (EReal.coe_ne_top _) _ _]
    congr 1
    · ac_rfl
    · exact mul_comm _ _
  rw [h]
  unfold sgn Scalar.select
  split
  · rw [zero_sub, zero_sub, mul_neg]
  · rfl

/-- The gradient of the temperature: `log 2` undoes the scaling of a logit. -/
theorem kt_scaled (g raw sx sy T : EReal) :
    cln2 * (g * (raw * (sx * (T * c2e)) * sy)) = g * (T * (raw * sx * sy)) := by
  have h : cln2 * c2e = 1 := by
    rw [c2e_eq, cln2_eq, ← EReal.coe_mul, mul_inv_cancel₀ log2_pos.ne', EReal.coe_one]
  calc cln2 * (g * (raw * (sx * (T * c2e)) * sy)) = (cln2 * c2e) * (g * (T * (raw * sx * sy))) := by ac_rfl
    _ = _ := by rw [h, one_mul]

/-- A product of terms `1 + e`, one built up as the kernel does. -/
theorem prod_fold {n : ℕ} (e : Fin n → ℝ) (l : List (Fin n)) (q : ℝ) :
    l.foldl (fun (q : EReal) k => q + (e k : EReal) * (1 + q)) (q : EReal)
      = (((1 + q) * (l.map fun k => 1 + e k).prod - 1 : ℝ) : EReal) := by
  induction l generalizing q with
  | nil => simp
  | cons k l ih =>
    rw [List.foldl_cons, show (q : EReal) + (e k : EReal) * (1 + (q : EReal)) = ((q + e k * (1 + q) : ℝ) : EReal) by
      rw [EReal.coe_add, EReal.coe_mul, EReal.coe_add, EReal.coe_one], ih]
    congr 1
    rw [List.map_cons, List.prod_cons]
    ring

/-- The kernel's logarithm of a product, its correction term being nought. -/
theorem log_fold {n : ℕ} (e : Fin n → ℝ) (he : ∀ k, 0 ≤ e k) (l : List (Fin n)) :
    (fun q : EReal => Ideal.log (1 + q) * c2e + (q - (1 + q - 1)) * Ideal.div c2e (1 + q))
        (l.foldl (fun (q : EReal) k => q + (e k : EReal) * (1 + q)) 0)
      = (l.map fun k => ((Real.log (1 + e k) : ℝ) : EReal) * c2e).sum := by
  have h1 : ∀ k, 0 < 1 + e k := fun k => by linarith [he k]
  have hpos : 0 < (l.map fun k => 1 + e k).prod := by
    induction l with
    | nil => simp
    | cons k l ih => rw [List.map_cons, List.prod_cons]; exact mul_pos (h1 k) ih
  have hp := prod_fold e l 0
  rw [EReal.coe_zero] at hp
  rw [hp]
  show Ideal.log (1 + (((1 + 0) * (l.map fun k => 1 + e k).prod - 1 : ℝ) : EReal)) * c2e + (_ - _) * Ideal.div c2e _ = _
  generalize hP : (l.map fun k => 1 + e k).prod = P at hpos ⊢
  rw [show (1 : EReal) + (((1 + 0) * P - 1 : ℝ) : EReal) = ((P : ℝ) : EReal) by
    rw [← EReal.coe_one, ← EReal.coe_add]; congr 1; ring,
    show (((1 + 0) * P - 1 : ℝ) : EReal) - (((P : ℝ) : EReal) - 1) = 0 by
      rw [← EReal.coe_one, ← EReal.coe_sub, ← EReal.coe_sub, ← EReal.coe_zero]; congr 1; ring,
    zero_mul, add_zero, Ideal.log_coe, if_neg (not_le.mpr hpos), c2e_eq, ← EReal.coe_mul, ← hP]
  clear hP hpos hp
  induction l with
  | nil => simp
  | cons k l ih =>
    have hl : (l.map fun k => 1 + e k).prod ≠ 0 := List.prod_ne_zero (by
      rw [List.mem_map]; rintro ⟨k, -, h⟩; exact (h1 k).ne' h)
    rw [List.map_cons, List.prod_cons, List.map_cons, List.sum_cons, ← ih, ← EReal.coe_mul, ← EReal.coe_add,
      Real.log_mul (h1 k).ne' hl, add_mul]

end Cert.Siglip

end
-- ==== Proof.Core.lean ====
/-
The mathematics of one batch, with no word about kernels: the five results as sums over the pairs of images and texts,
and the ways a tiled sum over the texts is the plain one.
-/
module

public import proofs.«01_k».proof.Proof.Scalar

@[expose] public section

noncomputable section

namespace Cert.Siglip

open Idealize.ShloMosaic

/-- One batch: the codes of the images and the texts, their scales, the pair labels, the temperature and the bias. -/
structure Batch where
  X : Fin 1536 → Fin 1152 → EReal
  Y : Fin 1536 → Fin 1152 → EReal
  SX : Fin 1536 → EReal
  SY : Fin 1536 → EReal
  ID : Fin 1536 → BitVec 32
  T : EReal
  B : EReal

namespace Batch
variable (D : Batch)

/-- The raw product of image `i` and text `j`, -/
def raw (i j : Fin 1536) : EReal := ∑ d, D.X i d * D.Y j d
/-- scaled, and times the temperature, -/
def dot (i j : Fin 1536) : EReal := D.T * (D.raw i j * D.SX i * D.SY j)
/-- whether the two are a pair, -/
def pr (i j : Fin 1536) : BitVec 1 := IntOp.cmpi .eq (D.ID i) (D.ID j)
/-- the logit with its sign, -/
def sg (i j : Fin 1536) : EReal := sgn (D.pr i j) (D.dot i j + D.B)
/-- and its gate. -/
def gt (i j : Fin 1536) : EReal := gate (D.pr i j) (D.dot i j + D.B)

/-- The loss of image `i`, -/
def loss (i : Fin 1536) : EReal := ∑ j, sp (D.sg i j)
/-- the derivative in the temperature, -/
def dt (i : Fin 1536) : EReal := ∑ j, D.gt i j * D.dot i j
/-- in the bias, -/
def db (i : Fin 1536) : EReal := ∑ j, D.gt i j
/-- in image `i`, -/
def dx (i : Fin 1536) (d : Fin 1152) : EReal := D.T * ∑ j, D.gt i j * (D.Y j d * D.SY j)
/-- and in text `j`. -/
def dy (j : Fin 1536) (d : Fin 1152) : EReal := D.T * ∑ i, D.gt i j * (D.X i d * D.SX i)

theorem pr_symm (i j : Fin 1536) : IntOp.cmpi .eq (D.ID j) (D.ID i) = D.pr i j := by
  unfold pr IntOp.cmpi
  congr 1
  simp [eq_comm]

end Batch

/-- Row `r` of block `k`. -/
abbrev at256 (k : Fin 6) (r : Fin 256) : Fin 1536 := ⟨256 * k.val + r.val, by omega⟩
/-- Row `8 n + r` of a block. -/
abbrev at8 (n : Fin 32) (r : Fin 8) : Fin 256 := ⟨8 * n.val + r.val, by omega⟩

theorem sum_at256 (f : Fin 1536 → EReal) : ∑ k : Fin 6, ∑ r : Fin 256, f (at256 k r) = ∑ j, f j := by
  rw [← Finset.sum_product', Finset.univ_product_univ]
  refine Fintype.sum_equiv (finProdFinEquiv (m := 6) (n := 256)) _ _ fun x => ?_
  congr 1
  ext
  simp [finProdFinEquiv, Nat.add_comm]

theorem sum_at8 (f : Fin 256 → EReal) : ∑ n : Fin 32, ∑ r : Fin 8, f (at8 n r) = ∑ j, f j := by
  rw [← Finset.sum_product', Finset.univ_product_univ]
  refine Fintype.sum_equiv (finProdFinEquiv (m := 32) (n := 8)) _ _ fun x => ?_
  congr 1
  ext
  simp [finProdFinEquiv, Nat.add_comm]

/-- The kernel's order of a sum over the texts: sublanes, then blocks, then the rows that share a sublane. -/
theorem sum_tiled (f : Fin 1536 → EReal) :
    ∑ r : Fin 8, ∑ k : Fin 6, ∑ n : Fin 32, f (at256 k (at8 n r)) = ∑ j, f j := by
  rw [Finset.sum_comm, ← sum_at256]
  refine Finset.sum_congr rfl fun k _ => ?_
  rw [Finset.sum_comm, ← sum_at8]

theorem ln2_mul_add (a b : EReal) : cln2 * (a + b) = cln2 * a + cln2 * b := by
  rw [cln2_eq]
  exact EReal.left_distrib_of_nonneg_of_ne_top (by exact_mod_cast log2_pos.le) (EReal.coe_ne_top _) _ _

theorem ln2_mul_sum {ι : Type*} (s : Finset ι) (f : ι → EReal) : cln2 * ∑ a ∈ s, f a = ∑ a ∈ s, cln2 * f a := by
  classical
  induction s using Finset.induction_on with
  | empty => simp
  | insert a s ha ih => rw [Finset.sum_insert ha, Finset.sum_insert ha, ln2_mul_add, ih]

end Cert.Siglip

end
-- ==== Proof.Tile.lean ====
/-
One tile of gates, read at an index over the extended reals.

The tile's rows are the texts `r` of a block and its lanes the images `c` of a block.  Each of the four sums gains the
tile's terms at the rows that share a sublane, and the tile stored for the gradients holds the gates.
-/
module

public import proofs.«01_k».proof.Proof.Row
public import proofs.«01_k».proof.Proof.Core

@[expose] public section

set_option maxRecDepth 16384

noncomputable section

namespace Cert.KernelIdeal.Hand

open Idealize.ShloMosaic Cert.KernelIdeal.Gen Cert.Siglip

theorem rows_eq : rows = List.finRange 32 := by decide

/-- A sum built up from the left, at an index. -/
theorem foldl_addf_apply {n : ℕ} (w : Fin n → FVec Ideal S8x256 .f32) (l : List (Fin n)) (a : FVec Ideal S8x256 .f32)
    (j : S8x256.Idx) :
    (l.foldl (fun a k => addf a (w k)) a) j = (a j : EReal) + (l.map fun k => (w k j : EReal)).sum := by
  induction l generalizing a with
  | nil => simp
  | cons k l ih =>
    rw [List.foldl_cons, ih, List.map_cons, List.sum_cons, ← add_assoc]
    rfl

/-- The running product, at an index. -/
theorem rQ_apply (q u : FVec Ideal S8x256 .f32) (r : Fin 8) (c : Fin 256) :
    rQ q u (ix2 r c) = (q (ix2 r c) : EReal) + ke (u (ix2 r c)) * (1 + q (ix2 r c)) := by
  pointwise [rQ, rE]
  rfl

theorem foldl_rQ_apply {n : ℕ} (u : Fin n → FVec Ideal S8x256 .f32) (l : List (Fin n)) (q : FVec Ideal S8x256 .f32)
    (r : Fin 8) (c : Fin 256) :
    (l.foldl (fun q k => rQ q (u k)) q) (ix2 r c)
      = l.foldl (fun (q : EReal) k => q + ke (u k (ix2 r c)) * (1 + q)) (q (ix2 r c)) := by
  induction l generalizing q with
  | nil => rfl
  | cons k l ih => rw [List.foldl_cons, List.foldl_cons, ih, rQ_apply]

theorem rLog_apply (q : FVec Ideal S8x256 .f32) (r : Fin 8) (c : Fin 256) :
    rLog q (ix2 r c) = (fun q : EReal => Ideal.log (1 + q) * c2e + (q - (1 + q - 1)) * Ideal.div c2e (1 + q)) (q (ix2 r c)) := by
  pointwise [rLog]

/-- The logarithm of the product of `1 + e` over the tile's rows, as a sum. -/
theorem soft_apply (a : FVec Ideal S8x256 .f32) (u : Fin 32 → FVec Ideal S8x256 .f32) (r : Fin 8) (c : Fin 256)
    (s : Fin 32 → EReal) (hs : ∀ n, u n (ix2 r c) = c2e * s n) :
    addf a (rLog (rows.foldl (fun q n => rQ q (u n)) (broadcast S8x256 (Scalar.ofBits .f32 0x00000000#32)))) (ix2 r c)
      = (a (ix2 r c) : EReal) + ∑ n : Fin 32, ((Real.log (1 + er (s n)) : ℝ) : EReal) * c2e := by
  have hz : (broadcast S8x256 (Scalar.ofBits (F := Ideal) .f32 0x00000000#32)) (ix2 r c) = (0 : EReal) := by pointwise
  have hf : (fun (q : EReal) n => q + ke (u n (ix2 r c)) * (1 + q)) = fun (q : EReal) n => q + (er (s n) : EReal) * (1 + q) := by
    funext q n
    rw [hs, ke_scaled]
  have h : ∀ q : FVec Ideal S8x256 .f32, (addf a (rLog q)) (ix2 r c) = (a (ix2 r c) : EReal) + rLog q (ix2 r c) := fun q => rfl
  rw [h, rLog_apply, foldl_rQ_apply, hz, hf, Fin.sum_univ_def, ← rows_eq,
    ← log_fold (fun n => er (s n)) (fun n => er_nonneg _)]

section tile
variable (sxt : FVec Ideal S1x256 .f32) (idi : IVec S1x256 32) (b2 : Ideal .f32) (raw : FVec Ideal S256x256 .f32)
  (sy : Fin 32 → Vec Ideal S8x128 .f32) (idj : Fin 32 → Vec Ideal S8x128 .i32)
  (SY : Fin 256 → EReal) (IDJ : Fin 256 → BitVec 32)

/-- Row `8 n + r` of a tile. -/
abbrev rw8 (n : Fin 32) (r : Fin 8) : Fin 256 := at8 n r

/-- The scaled product of text `r` and image `c`, -/
def vAt (r c : Fin 256) : EReal := (raw (ix2 r c) : EReal) * sxt (ix2 0 c) * SY r
/-- whether they are a pair, -/
def pAt (r c : Fin 256) : BitVec 1 := IntOp.cmpi .eq (IDJ r) (idi (ix2 0 c))
/-- and their signed logit. -/
def uAt (r c : Fin 256) : EReal :=
  Scalar.select (pAt idi IDJ r c) (0 - (vAt sxt raw SY r c + b2)) (vAt sxt raw SY r c + b2)

variable (hsy : ∀ n r l, sy n (ix2 r l) = SY (rw8 n r)) (hid : ∀ n r l, idj n (ix2 r l) = IDJ (rw8 n r))

include hsy in
theorem tV_apply (n : Fin 32) (r : Fin 8) (c : Fin 256) :
    tV sxt raw sy n (ix2 r c) = vAt sxt raw SY (rw8 n r) c := by
  pointwise [tV, rV]
  simp only [hsy, dite_eq_ite, ite_self]
  rfl

include hid in
theorem rSame_apply (n : Fin 32) (r : Fin 8) (c : Fin 256) :
    rSame (F := Ideal) idi (idj n) (ix2 r c) = pAt idi IDJ (rw8 n r) c := by
  pointwise [rSame]
  simp only [hid, dite_eq_ite, ite_self]
  rfl

include hsy hid in
theorem tU_apply (n : Fin 32) (r : Fin 8) (c : Fin 256) :
    tU sxt idi b2 raw sy idj n (ix2 r c) = uAt sxt idi b2 raw SY IDJ (rw8 n r) c := by
  have hv := tV_apply sxt raw sy SY hsy n r c
  have hp := rSame_apply idi idj IDJ hid n r c
  unfold tU
  generalize tV sxt raw sy n = v at hv ⊢
  generalize rSame (F := Ideal) idi (idj n) = p at hp ⊢
  pointwise [rU]
  rw [hv, hp]
  rfl

include hsy hid in
theorem tG_apply (n : Fin 32) (r : Fin 8) (c : Fin 256) :
    tG sxt idi b2 raw sy idj n (ix2 r c) = kg (uAt sxt idi b2 raw SY IDJ (rw8 n r) c) (pAt idi IDJ (rw8 n r) c) := by
  have hu := tU_apply sxt idi b2 raw sy idj SY IDJ hsy hid n r c
  have hp := rSame_apply idi idj IDJ hid n r c
  unfold tG
  generalize tU sxt idi b2 raw sy idj n = u at hu ⊢
  generalize rSame (F := Ideal) idi (idj n) = p at hp ⊢
  pointwise [rG, rSig, rR, rE]
  rw [hu, hp]
  rfl

theorem concat_rows (G : Fin 32 → FVec Ideal S8x256 .f32) (n : Fin 32) (r : Fin 8) (c : Fin 256) :
    concatenate S256x256 0 (rows.map fun n => (⟨S8x256, G n⟩ : (s : Shape) × (s.Idx → Ideal .f32))) (concatRows G)
      (ix2 (rw8 n r) c) = G n (ix2 r c) := by
  have e : (rows.map fun n => (⟨S8x256, G n⟩ : (s : Shape) × (s.Idx → Ideal .f32)))
      = List.ofFn fun n : Fin 32 => ⟨S8x256, G n⟩ := by rw [rows_eq, List.ofFn_eq_map]
  have key : ∀ (xs ys : List ((s : Shape) × (s.Idx → Ideal .f32))) (h : xs = ys)
      (hx : Shape.Concatenates (xs.map (·.1)) S256x256 0) (j : S256x256.Idx),
      concatenate S256x256 0 xs hx j = concatenate S256x256 0 ys (h ▸ hx) j := by
    rintro xs _ rfl hx j; rfl
  rw [key _ _ e]
  refine concatenate_ofFn_apply (t := S256x256) (s₁ := S8x256) 0 G _ rfl 8 rfl _ n ?_ _ ?_ ?_
  · show (8 * n.val + r.val) / 8 = n.val
    omega
  · show r.val = (8 * n.val + r.val) % 8
    omega
  · intro b hb
    fin_cases b
    · exact absurd rfl hb
    · rfl

include hsy hid in
theorem tileG_apply (n : Fin 32) (r : Fin 8) (c : Fin 256) :
    tileG sxt idi b2 raw sy idj (ix3 0 (rw8 n r) c)
      = kg (uAt sxt idi b2 raw SY IDJ (rw8 n r) c) (pAt idi IDJ (rw8 n r) c) := by
  rw [← tG_apply sxt idi b2 raw sy idj SY IDJ hsy hid, ← concat_rows (fun n => tG sxt idi b2 raw sy idj n)]
  pointwise [tileG]

variable (acc : FVec Ideal S8x256 .f32 × FVec Ideal S8x256 .f32 × FVec Ideal S8x256 .f32 × FVec Ideal S8x256 .f32)

include hsy hid in
theorem tileR_lin (r : Fin 8) (c : Fin 256) :
    (tileR sxt idi b2 raw sy idj acc).1 (ix2 r c)
      = (acc.1 (ix2 r c) : EReal) + ∑ n : Fin 32, max (uAt sxt idi b2 raw SY IDJ (rw8 n r) c) 0 := by
  rw [Fin.sum_univ_def, ← rows_eq]
  unfold tileR
  dsimp only
  rw [foldl_addf_apply]
  congr 2
  refine List.map_congr_left fun n _ => ?_
  rw [← tU_apply sxt idi b2 raw sy idj SY IDJ hsy hid]
  pointwise

include hsy hid in
theorem tileR_dt (r : Fin 8) (c : Fin 256) :
    (tileR sxt idi b2 raw sy idj acc).2.2.1 (ix2 r c)
      = (acc.2.2.1 (ix2 r c) : EReal) + ∑ n : Fin 32, kg (uAt sxt idi b2 raw SY IDJ (rw8 n r) c) (pAt idi IDJ (rw8 n r) c)
          * vAt sxt raw SY (rw8 n r) c := by
  rw [Fin.sum_univ_def, ← rows_eq]
  unfold tileR
  dsimp only
  rw [foldl_addf_apply]
  congr 2
  refine List.map_congr_left fun n _ => ?_
  rw [← tG_apply sxt idi b2 raw sy idj SY IDJ hsy hid, ← tV_apply sxt raw sy SY hsy]
  pointwise

include hsy hid in
theorem tileR_db (r : Fin 8) (c : Fin 256) :
    (tileR sxt idi b2 raw sy idj acc).2.2.2 (ix2 r c)
      = (acc.2.2.2 (ix2 r c) : EReal) + ∑ n : Fin 32, kg (uAt sxt idi b2 raw SY IDJ (rw8 n r) c) (pAt idi IDJ (rw8 n r) c) := by
  rw [Fin.sum_univ_def, ← rows_eq]
  unfold tileR
  dsimp only
  rw [foldl_addf_apply]
  congr 2
  refine List.map_congr_left fun n _ => ?_
  rw [← tG_apply sxt idi b2 raw sy idj SY IDJ hsy hid]

include hsy hid in
/-- The part of the softplus that goes through the logarithm, for a tile whose signed logits are scaled ones. -/
theorem tileR_soft (r : Fin 8) (c : Fin 256) (s : Fin 32 → EReal)
    (hs : ∀ n, uAt sxt idi b2 raw SY IDJ (rw8 n r) c = c2e * s n) :
    (tileR sxt idi b2 raw sy idj acc).2.1 (ix2 r c)
      = (acc.2.1 (ix2 r c) : EReal) + ∑ n : Fin 32, ((Real.log (1 + er (s n)) : ℝ) : EReal) * c2e := by
  unfold tileR
  dsimp only
  refine soft_apply _ _ r c s fun n => ?_
  rw [tU_apply sxt idi b2 raw sy idj SY IDJ hsy hid, hs]

end tile

end Cert.KernelIdeal.Hand

end
-- ==== Proof.State.lean ====
/-
One of the kernel's inner loops, run to its end: the four sums and the slot of gates it leaves.

The six loops differ in their row block and in the slot they fill; the statement is made once, over any state that moves by
`tileR` and `tileG`.
-/
module

public import proofs.«01_k».proof.Proof.Tile
public import proofs.«01_k».proof.Proof.Core

@[expose] public section

set_option maxRecDepth 16384

noncomputable section

namespace Cert.KernelIdeal.Hand

open Idealize.ShloMosaic Cert.KernelIdeal.Gen Cert.Siglip

/-- The four sums a loop carries. -/
abbrev Acc := FVec Ideal S8x256 .f32 × FVec Ideal S8x256 .f32 × FVec Ideal S8x256 .f32 × FVec Ideal S8x256 .f32
/-- The stores into the gates' buffer. -/
abbrev GtPieces := List (View.Piece (Elt Ideal) S2x1536x256 .bf16)

/-- Stores that fill slot `s` of the gates' buffer with `g` and leave the other slot alone. -/
structure Fills (s : Fin 2) (g : Fin 1536 → Fin 256 → EReal) (L : GtPieces) : Prop where
  val : ∀ p ∈ L, ∀ x : p.1.shape.Idx, p.2 x = g ((p.1.emb x) 1) ((p.1.emb x) 2)
  slot : ∀ p ∈ L, ∀ y ∈ p.1.set, y 0 = s
  cover : ∀ (j : Fin 1536) (c : Fin 256), ∃ p ∈ L, (ix3 s j c : S2x1536x256.Idx) ∈ p.1.set

theorem Fills.hit {s : Fin 2} {g : Fin 1536 → Fin 256 → EReal} {L : GtPieces} (h : Fills s g L)
    (v : View sig .tc .vmem S2x1536x256 .bf16) (f : v.ty.Contents (Elt Ideal)) (L' : GtPieces) (j : Fin 1536) (c : Fin 256) :
    v.read (Elt Ideal) (v.writes (Elt Ideal) f (L ++ L')) (ix3 s j c) = g j c := by
  rw [View.writes_append]
  exact View.read_writes_apply_of_pieces (Val := Elt Ideal) v _ (fun y => g (y 1) (y 2)) L h.val _ (h.cover j c)

theorem Fills.hit' {s : Fin 2} {g : Fin 1536 → Fin 256 → EReal} {L : GtPieces} (h : Fills s g L)
    (v : View sig .tc .vmem S2x1536x256 .bf16) (f : v.ty.Contents (Elt Ideal)) (j : Fin 1536) (c : Fin 256) :
    v.read (Elt Ideal) (v.writes (Elt Ideal) f L) (ix3 s j c) = g j c :=
  View.read_writes_apply_of_pieces (Val := Elt Ideal) v _ (fun y => g (y 1) (y 2)) L h.val _ (h.cover j c)

theorem Fills.miss {s s' : Fin 2} {g : Fin 1536 → Fin 256 → EReal} {L : GtPieces} (h : Fills s g L) (hs : s' ≠ s)
    (v : View sig .tc .vmem S2x1536x256 .bf16) (f : v.ty.Contents (Elt Ideal)) (L' : GtPieces) (j : Fin 1536) (c : Fin 256) :
    v.read (Elt Ideal) (v.writes (Elt Ideal) f (L ++ L')) (ix3 s' j c)
      = v.read (Elt Ideal) (v.writes (Elt Ideal) f L') (ix3 s' j c) := by
  rw [View.writes_append]
  exact View.read_writes_apply_of_forall_not_mem v _ _ L fun p hp hy => hs (h.slot p hp _ hy)

/-- What a loop leaves for row block `I`. -/
structure LoopPost (D : Batch) (I : Fin 6) (s : Fin 2) (R : Acc × GtPieces) : Prop where
  lin : ∀ r c, R.1.1 (ix2 r c) = ∑ k : Fin 6, ∑ n : Fin 32, max (c2e * D.sg (at256 I c) (at256 k (at8 n r))) 0
  soft : ∀ r c, R.1.2.1 (ix2 r c)
    = ∑ k : Fin 6, ∑ n : Fin 32, ((Real.log (1 + er (D.sg (at256 I c) (at256 k (at8 n r)))) : ℝ) : EReal) * c2e
  dt : ∀ r c, cln2 * R.1.2.2.1 (ix2 r c) = ∑ k : Fin 6, ∑ n : Fin 32,
    D.gt (at256 I c) (at256 k (at8 n r)) * D.dot (at256 I c) (at256 k (at8 n r))
  db : ∀ r c, R.1.2.2.2 (ix2 r c) = ∑ k : Fin 6, ∑ n : Fin 32, D.gt (at256 I c) (at256 k (at8 n r))
  fills : Fills s (fun j c => D.gt (at256 I c) j) R.2

/-- A sum built up by one step a trip. -/
theorem sum_of_steps {m : ℕ} (a : ℕ → EReal) (f : Fin m → EReal) (h0 : a 0 = 0)
    (hs : ∀ k : Fin m, a (k.val + 1) = a k.val + f k) : a m = ∑ k, f k := by
  have key : ∀ n (hn : n ≤ m), a n = ∑ k : Fin n, f ⟨k.val, by omega⟩ := by
    intro n
    induction n with
    | zero => intro _; simpa using h0
    | succ n ih =>
      intro hn
      rw [hs ⟨n, hn⟩, ih (by omega), Fin.sum_univ_castSucc]
      rfl
  simpa using key m le_rfl

/-- The stores a loop makes, one a trip, the last first. -/
theorem mem_of_steps {α : Type*} {m : ℕ} (a : ℕ → List α) (p : Fin m → α) (h0 : a 0 = [])
    (hs : ∀ k : Fin m, a (k.val + 1) = [p k] ++ a k.val) (q : α) : q ∈ a m ↔ ∃ k, q = p k := by
  have key : ∀ n (hn : n ≤ m), q ∈ a n ↔ ∃ k : Fin m, k.val < n ∧ q = p k := by
    intro n
    induction n with
    | zero => intro _; simp [h0]
    | succ n ih =>
      intro hn
      rw [hs ⟨n, hn⟩, List.mem_append, ih (by omega), List.mem_singleton]
      constructor
      · rintro (rfl | ⟨k, hk, rfl⟩)
        · exact ⟨⟨n, hn⟩, Nat.lt_succ_self n, rfl⟩
        · exact ⟨k, by omega, rfl⟩
      · rintro ⟨k, hk, rfl⟩
        rcases Nat.lt_succ_iff_lt_or_eq.mp hk with hk | hk
        · exact .inr ⟨k, hk, rfl⟩
        · exact .inl (congrArg p (Fin.ext hk))
  rw [key m le_rfl]
  exact ⟨fun ⟨k, _, h⟩ => ⟨k, h⟩, fun ⟨k, h⟩ => ⟨k, k.isLt, h⟩⟩

section loop
variable (D : Batch) (I : Fin 6) (s : Fin 2)
  (sx : FVec Ideal S1x256 .f32) (ids : IVec S1x256 32) (b2 : Ideal .f32)
  (raw : Fin 6 → FVec Ideal S256x256 .f32) (sy : Fin 6 → Fin 32 → Vec Ideal S8x128 .f32)
  (idj : Fin 6 → Fin 32 → Vec Ideal S8x128 .i32)
  (hsx : ∀ c, sx (ix2 0 c) = D.SX (at256 I c) * (D.T * c2e)) (hids : ∀ c, ids (ix2 0 c) = D.ID (at256 I c))
  (hb2 : b2 = D.B * c2e) (hraw : ∀ k r c, raw k (ix2 r c) = D.raw (at256 I c) (at256 k r))
  (hsy : ∀ k n r l, sy k n (ix2 r l) = D.SY (at256 k (at8 n r)))
  (hid : ∀ k n r l, idj k n (ix2 r l) = D.ID (at256 k (at8 n r)))

include hids in
theorem pAt_eq (k : Fin 6) (r c : Fin 256) :
    pAt ids (fun r => D.ID (at256 k r)) r c = D.pr (at256 I c) (at256 k r) := by
  unfold pAt
  rw [hids, D.pr_symm]

include hsx hraw in
theorem vAt_eq (k : Fin 6) (r c : Fin 256) :
    vAt sx (raw k) (fun r => D.SY (at256 k r)) r c
      = D.raw (at256 I c) (at256 k r) * (D.SX (at256 I c) * (D.T * c2e)) * D.SY (at256 k r) := by
  unfold vAt
  rw [hsx, hraw]

include hsx hids hb2 hraw in
theorem uAt_eq (k : Fin 6) (r c : Fin 256) :
    uAt sx ids b2 (raw k) (fun r => D.SY (at256 k r)) (fun r => D.ID (at256 k r)) r c
      = c2e * D.sg (at256 I c) (at256 k r) := by
  unfold uAt
  rw [pAt_eq D I ids hids, vAt_eq D I sx raw hsx hraw, hb2, ku_scaled]
  rfl

variable (st : ℕ → Acc × GtPieces) (off : Fin 6 → Fin 3 → ℕ) (inb : ∀ k a, off k a + S1x256x256.size a ≤ S2x1536x256.size a)
  (hoff : ∀ k, off k = ![s.val, 256 * k.val, 0])
  (h0 : st 0 = ((fun _ => (0 : EReal), fun _ => (0 : EReal), fun _ => (0 : EReal), fun _ => (0 : EReal)), []))
  (hs : ∀ k : Fin 6, st (k.val + 1) = (tileR sx ids b2 (raw k) (sy k) (idj k) (st k.val).1,
    [⟨Rect.unit (s := S2x1536x256) (off k) S1x256x256.size (inb k), tileG sx ids b2 (raw k) (sy k) (idj k)⟩] ++ (st k.val).2))

include hsx hids hb2 hraw hsy hid hoff h0 hs in
theorem loop_fills : Fills s (fun j c => D.gt (at256 I c) j) (st 6).2 := by
  have hmem := mem_of_steps (fun n => (st n).2)
    (fun k : Fin 6 => (⟨Rect.unit (s := S2x1536x256) (off k) S1x256x256.size (inb k), tileG sx ids b2 (raw k) (sy k) (idj k)⟩
      : View.Piece (Elt Ideal) S2x1536x256 .bf16)) (congrArg Prod.snd h0) (fun k => congrArg Prod.snd (hs k))
  have hg : ∀ (k : Fin 6) (n : Fin 32) (r : Fin 8) (c : Fin 256),
      tileG sx ids b2 (raw k) (sy k) (idj k) (ix3 0 (at8 n r) c) = D.gt (at256 I c) (at256 k (at8 n r)) := by
    intro k n r c
    rw [tileG_apply sx ids b2 (raw k) (sy k) (idj k) (fun r => D.SY (at256 k r)) (fun r => D.ID (at256 k r))
      (hsy k) (hid k), uAt_eq D I sx ids b2 raw hsx hids hb2 hraw, pAt_eq D I ids hids]
    exact kg_scaled _ _
  refine ⟨?_, ?_, ?_⟩
  · intro p hp x
    obtain ⟨k, rfl⟩ := (hmem p).mp hp
    obtain ⟨a, r, c, rfl⟩ : ∃ (a : Fin 1) (r c : Fin 256), x = (ix3 a r c : S1x256x256.Idx) :=
      ⟨x 0, x 1, x 2, by funext i; fin_cases i <;> rfl⟩
    obtain rfl : a = 0 := Subsingleton.elim _ _
    have hr : r = at8 ⟨r.val / 8, by omega⟩ ⟨r.val % 8, by omega⟩ := Fin.ext (by dsimp; omega)
    refine (congrArg (fun r => tileG sx ids b2 (raw k) (sy k) (idj k) (ix3 0 r c)) hr).trans ((hg k _ _ c).trans ?_)
    rw [← hr]
    have e1 : (Rect.unit (s := S2x1536x256) (off k) S1x256x256.size (inb k)).emb (ix3 0 r c : S1x256x256.Idx) 1 = at256 k r :=
      Fin.ext (by rw [Rect.emb_apply]; simp [hoff])
    have e2 : (Rect.unit (s := S2x1536x256) (off k) S1x256x256.size (inb k)).emb (ix3 0 r c : S1x256x256.Idx) 2 = c :=
      Fin.ext (by rw [Rect.emb_apply]; simp [hoff])
    show _ = D.gt (at256 I ((Rect.unit (s := S2x1536x256) (off k) S1x256x256.size (inb k)).emb (ix3 0 r c : S1x256x256.Idx) 2)) _
    rw [e1, e2]
  · intro p hp y hy
    obtain ⟨k, rfl⟩ := (hmem p).mp hp
    obtain ⟨j, hj, hy⟩ := ((Rect.unit (s := S2x1536x256) (off k) S1x256x256.size (inb k)).mem_set.mp hy) 0
    refine Fin.ext ?_
    have hj' : j < 1 := hj
    rw [hy]
    simp [hoff]
    omega
  · intro j c
    refine ⟨_, (hmem _).mpr ⟨⟨j.val / 256, by omega⟩, rfl⟩, (Rect.unit (s := S2x1536x256) (off ⟨j.val / 256, by omega⟩) S1x256x256.size (inb ⟨j.val / 256, by omega⟩)).mem_set.mpr fun a => ?_⟩
    fin_cases a
    · exact ⟨0, Nat.one_pos, by simp [hoff]⟩
    · exact ⟨j.val % 256, Nat.mod_lt _ (by decide), by
        simp [hoff]; show j.val = _; omega⟩
    · exact ⟨c.val, c.isLt, by simp [hoff]⟩

include hsx hids hb2 hraw hsy hid hoff h0 hs in
theorem loop_post : LoopPost D I s (st 6) := by
  refine ⟨?_, ?_, ?_, ?_, loop_fills D I s sx ids b2 raw sy idj hsx hids hb2 hraw hsy hid st off inb hoff h0 hs⟩
  · intro r c
    refine sum_of_steps (m := 6) (fun n => (st n).1.1 (ix2 r c)) _ (by simp only [h0]) fun k => ?_
    simp only [hs]
    rw [tileR_lin sx ids b2 (raw k) (sy k) (idj k) (fun r => D.SY (at256 k r)) (fun r => D.ID (at256 k r)) (hsy k) (hid k)]
    simp only [uAt_eq D I sx ids b2 raw hsx hids hb2 hraw]
  · intro r c
    refine sum_of_steps (m := 6) (fun n => (st n).1.2.1 (ix2 r c)) _ (by simp only [h0]) fun k => ?_
    simp only [hs]
    rw [tileR_soft sx ids b2 (raw k) (sy k) (idj k) (fun r => D.SY (at256 k r)) (fun r => D.ID (at256 k r)) (hsy k) (hid k)
      _ r c (fun n => D.sg (at256 I c) (at256 k (at8 n r))) fun n => uAt_eq D I sx ids b2 raw hsx hids hb2 hraw k _ c]
  · intro r c
    refine sum_of_steps (m := 6) (fun n => cln2 * (st n).1.2.2.1 (ix2 r c)) _ (by simp only [h0]; simp) fun k => ?_
    simp only [hs]
    rw [tileR_dt sx ids b2 (raw k) (sy k) (idj k) (fun r => D.SY (at256 k r)) (fun r => D.ID (at256 k r)) (hsy k) (hid k),
      ln2_mul_add, ln2_mul_sum]
    congr 1
    refine Finset.sum_congr rfl fun n _ => ?_
    rw [uAt_eq D I sx ids b2 raw hsx hids hb2 hraw, pAt_eq D I ids hids, vAt_eq D I sx raw hsx hraw, kt_scaled]
    exact congrArg (· * _) (kg_scaled _ _)
  · intro r c
    refine sum_of_steps (m := 6) (fun n => (st n).1.2.2.2 (ix2 r c)) _ (by simp only [h0]) fun k => ?_
    simp only [hs]
    rw [tileR_db sx ids b2 (raw k) (sy k) (idj k) (fun r => D.SY (at256 k r)) (fun r => D.ID (at256 k r)) (hsy k) (hid k)]
    congr 1
    refine Finset.sum_congr rfl fun n _ => ?_
    rw [uAt_eq D I sx ids b2 raw hsx hids hb2 hraw, pAt_eq D I ids hids]
    exact kg_scaled _ _

end loop

section rows
variable {D : Batch} {I : Fin 6} {s : Fin 2} {R : Acc × GtPieces} (h : LoopPost D I s R)

include h in
/-- The loss row, -/
theorem LoopPost.loss (c : Fin 256) :
    cln2 * ∑ r : Fin 8, (R.1.1 (ix2 r c) + R.1.2.1 (ix2 r c) : EReal) = D.loss (at256 I c) := by
  unfold Batch.loss
  rw [← sum_tiled, ln2_mul_sum]
  refine Finset.sum_congr rfl fun r _ => ?_
  rw [h.lin, h.soft, ← Finset.sum_add_distrib, ln2_mul_sum]
  refine Finset.sum_congr rfl fun k _ => ?_
  rw [← Finset.sum_add_distrib, ln2_mul_sum]
  exact Finset.sum_congr rfl fun n _ => soft_scaled _

include h in
/-- the temperature's, -/
theorem LoopPost.dtRow (c : Fin 256) : cln2 * ∑ r : Fin 8, (R.1.2.2.1 (ix2 r c) : EReal) = D.dt (at256 I c) := by
  unfold Batch.dt
  rw [← sum_tiled, ln2_mul_sum]
  exact Finset.sum_congr rfl fun r _ => h.dt r c

include h in
/-- and the bias's. -/
theorem LoopPost.dbRow (c : Fin 256) : ∑ r : Fin 8, (R.1.2.2.2 (ix2 r c) : EReal) = D.db (at256 I c) := by
  unfold Batch.db
  rw [← sum_tiled]
  exact Finset.sum_congr rfl fun r _ => h.db r c

end rows

end Cert.KernelIdeal.Hand

end
-- ==== Proof.Trip.lean ====
/-
What one trip of each of the kernel's six inner loops does.

Each loop walks the six column blocks of a row block; a trip adds its tile to the four sums and stores the tile's gates.
The six loops are the same code met six times, so every statement below has the same right-hand side, `tileR` and `tileG`
of Row.lean.
-/
module

public import proofs.«01_k».proof.Proof.Row
import all proofs.«01_k».proof.Proof.Gen.KernelIdeal.Loops

@[expose] public section

set_option maxRecDepth 16384

noncomputable section

namespace Cert.KernelIdeal.Hand

open Idealize.ShloMosaic Idealize.ShloMosaic.TcCoe Cert.KernelIdeal.Gen

variable {F : FTy → Type} [FloatOps F] [Named F]

variable (𝒱 : Variants) (c : Dev nD) (bd : Option 𝒱.V) (i : grid0.Coords) (arg1 : Memref sig .tc .smem S1x1 .f32)
  (harg1 : arg1.IsWhole) (arg2 : Memref sig .tc .smem S1x1 .f32) (harg2 : arg2.IsWhole)
  (arg3 : Memref sig .tc .vmem S3x1536 .f32) (harg3 : arg3.IsWhole) (arg4 : Memref sig .tc .vmem S3x1536 .f32)
  (harg4 : arg4.IsWhole) (arg5 : Memref sig .tc .vmem S3x1536 .i32) (harg5 : arg5.IsWhole)
  (arg6 : Memref sig .tc .vmem S1x1536x1152 .fp8e4m3) (harg6 : arg6.IsWhole)
  (arg7 : Memref sig .tc .vmem S1x1536x1152 .fp8e4m3) (harg7 : arg7.IsWhole) (arg8 : Memref sig .tc .vmem S3x1536 .f32)
  (harg8 : arg8.IsWhole) (arg9 : Memref sig .tc .vmem S1x1536x1152 .bf16) (harg9 : arg9.IsWhole)
  (arg10 : Memref sig .tc .vmem S1x1536x1152 .bf16) (harg10 : arg10.IsWhole) (arg11 : Memref sig .tc .vmem S3x1536 .f32)
  (harg11 : arg11.IsWhole) (arg12 : Memref sig .tc .vmem S3x1536 .f32) (harg12 : arg12.IsWhole)
  (arg13 : Memref sig .tc .vmem S1152x1536 .bf16) (harg13 : arg13.IsWhole) (arg14 : Memref sig .tc .vmem S1152x1536 .bf16)
  (harg14 : arg14.IsWhole) (arg15 : Memref sig .tc .vmem S2x1536x256 .bf16) (harg15 : arg15.IsWhole)
  (arg16 : Memref sig .tc .vmem S1152x1536 .f32) (harg16 : arg16.IsWhole) (arg17 : Memref sig .tc .vmem S1536x128 .f32)
  (harg17 : arg17.IsWhole) (arg18 : Memref sig .tc .vmem S1536x128 .i32) (harg18 : arg18.IsWhole)
  (arg0 : BitVec 32) (v3 : FVec F S1x1 .f32) (v5 : F .f32)
  (X7 : BufTy.Contents (Elt F) arg7.view.ty) (X17 : BufTy.Contents (Elt F) arg17.view.ty)
  (X18 : BufTy.Contents (Elt F) arg18.view.ty)

/-- Loop 1: the sums after a trip, -/
theorem tripR1 (v7 : Vec F S1x1536 .f32) (v11 : Vec F S1x1536 .i32) (v1197 : FVec F S128x256 .bf16) (x : Vec F S1x256x1152 .fp8e4m3)
    (k : Fin k0_t1_loop.trips) (acc : FVec F S8x256 .f32 × FVec F S8x256 .f32 × FVec F S8x256 .f32 × FVec F S8x256 .f32) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 v1197 x X7 X17 X18 k acc
      = tileR (sxt 0 v3 v7) (idi 0 v11) v5
          (rawTile (xTile x) (View.readAt (Elt F) arg7.view (Rect.unit (s := S1x1536x1152) (k0_off2 k) S1x256x1152.size (Gen.k0_off2_inb k)).toLoadRect X7))
          (fun n => View.readAt (Elt F) arg17.view (Rect.unit (s := S1536x128) (k0_off3 k (BitVec.ofNat 32 (8 * n.val))) S8x128.size (Gen.k0_off3_inb k n)).toLoadRect X17)
          (fun n => View.readAt (Elt F) arg18.view (Rect.unit (s := S1536x128) (k0_off3 k (BitVec.ofNat 32 (8 * n.val))) S8x128.size (Gen.k0_off3_inb k n)).toLoadRect X18) acc := by
  unfold tripR_k0_t1 trip_k0_t1; rfl

/-- and the tile of gates it stores. -/
theorem tripL1 (v7 : Vec F S1x1536 .f32) (v11 : Vec F S1x1536 .i32) (v1197 : FVec F S128x256 .bf16) (x : Vec F S1x256x1152 .fp8e4m3)
    (k : Fin k0_t1_loop.trips) (acc : FVec F S8x256 .f32 × FVec F S8x256 .f32 × FVec F S8x256 .f32 × FVec F S8x256 .f32) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 v1197 x X7 X17 X18 k acc
      = [⟨Rect.unit (s := S2x1536x256) (k0_off4 k) S1x256x256.size (Gen.k0_off4_inb k),
          tileG (sxt 0 v3 v7) (idi 0 v11) v5
          (rawTile (xTile x) (View.readAt (Elt F) arg7.view (Rect.unit (s := S1x1536x1152) (k0_off2 k) S1x256x1152.size (Gen.k0_off2_inb k)).toLoadRect X7))
          (fun n => View.readAt (Elt F) arg17.view (Rect.unit (s := S1536x128) (k0_off3 k (BitVec.ofNat 32 (8 * n.val))) S8x128.size (Gen.k0_off3_inb k n)).toLoadRect X17)
          (fun n => View.readAt (Elt F) arg18.view (Rect.unit (s := S1536x128) (k0_off3 k (BitVec.ofNat 32 (8 * n.val))) S8x128.size (Gen.k0_off3_inb k n)).toLoadRect X18)⟩] := by
  unfold tripL_k0_t1 trip_k0_t1; rfl

/-- Loop 2: the sums after a trip, -/
theorem tripR2 (v11 : Vec F S1x1536 .i32) (xm : FVec F S256x1152 .fp8e4m3) (sxt1 : FVec F S1x256 .f32)
    (k : Fin k0_t2_loop.trips) (acc : FVec F S8x256 .f32 × FVec F S8x256 .f32 × FVec F S8x256 .f32 × FVec F S8x256 .f32) :
    tripR_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v11 xm sxt1 X7 X17 X18 k acc
      = tileR (sxt1) (idi 1 v11) v5
          (rawTile (xm) (View.readAt (Elt F) arg7.view (Rect.unit (s := S1x1536x1152) (k0_off6 k) S1x256x1152.size (Gen.k0_off6_inb k)).toLoadRect X7))
          (fun n => View.readAt (Elt F) arg17.view (Rect.unit (s := S1536x128) (k0_off7 k (BitVec.ofNat 32 (8 * n.val))) S8x128.size (Gen.k0_off7_inb k n)).toLoadRect X17)
          (fun n => View.readAt (Elt F) arg18.view (Rect.unit (s := S1536x128) (k0_off7 k (BitVec.ofNat 32 (8 * n.val))) S8x128.size (Gen.k0_off7_inb k n)).toLoadRect X18) acc := by
  unfold tripR_k0_t2 trip_k0_t2; rfl

/-- and the tile of gates it stores. -/
theorem tripL2 (v11 : Vec F S1x1536 .i32) (xm : FVec F S256x1152 .fp8e4m3) (sxt1 : FVec F S1x256 .f32)
    (k : Fin k0_t2_loop.trips) (acc : FVec F S8x256 .f32 × FVec F S8x256 .f32 × FVec F S8x256 .f32 × FVec F S8x256 .f32) :
    tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v11 xm sxt1 X7 X17 X18 k acc
      = [⟨Rect.unit (s := S2x1536x256) (k0_off8 k) S1x256x256.size (Gen.k0_off8_inb k),
          tileG (sxt1) (idi 1 v11) v5
          (rawTile (xm) (View.readAt (Elt F) arg7.view (Rect.unit (s := S1x1536x1152) (k0_off6 k) S1x256x1152.size (Gen.k0_off6_inb k)).toLoadRect X7))
          (fun n => View.readAt (Elt F) arg17.view (Rect.unit (s := S1536x128) (k0_off7 k (BitVec.ofNat 32 (8 * n.val))) S8x128.size (Gen.k0_off7_inb k n)).toLoadRect X17)
          (fun n => View.readAt (Elt F) arg18.view (Rect.unit (s := S1536x128) (k0_off7 k (BitVec.ofNat 32 (8 * n.val))) S8x128.size (Gen.k0_off7_inb k n)).toLoadRect X18)⟩] := by
  unfold tripL_k0_t2 trip_k0_t2; rfl

/-- Loop 3: the sums after a trip, -/
theorem tripR3 (v7 : Vec F S1x1536 .f32) (v11 : Vec F S1x1536 .i32) (x : Vec F S1x256x1152 .fp8e4m3)
    (k : Fin k0_t3_loop.trips) (acc : FVec F S8x256 .f32 × FVec F S8x256 .f32 × FVec F S8x256 .f32 × FVec F S8x256 .f32) :
    tripR_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 x X7 X17 X18 k acc
      = tileR (sxt 2 v3 v7) (idi 2 v11) v5
          (rawTile (xTile x) (View.readAt (Elt F) arg7.view (Rect.unit (s := S1x1536x1152) (k0_off10 k) S1x256x1152.size (Gen.k0_off10_inb k)).toLoadRect X7))
          (fun n => View.readAt (Elt F) arg17.view (Rect.unit (s := S1536x128) (k0_off11 k (BitVec.ofNat 32 (8 * n.val))) S8x128.size (Gen.k0_off11_inb k n)).toLoadRect X17)
          (fun n => View.readAt (Elt F) arg18.view (Rect.unit (s := S1536x128) (k0_off11 k (BitVec.ofNat 32 (8 * n.val))) S8x128.size (Gen.k0_off11_inb k n)).toLoadRect X18) acc := by
  unfold tripR_k0_t3 trip_k0_t3; rfl

/-- and the tile of gates it stores. -/
theorem tripL3 (v7 : Vec F S1x1536 .f32) (v11 : Vec F S1x1536 .i32) (x : Vec F S1x256x1152 .fp8e4m3)
    (k : Fin k0_t3_loop.trips) (acc : FVec F S8x256 .f32 × FVec F S8x256 .f32 × FVec F S8x256 .f32 × FVec F S8x256 .f32) :
    tripL_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 x X7 X17 X18 k acc
      = [⟨Rect.unit (s := S2x1536x256) (k0_off12 k) S1x256x256.size (Gen.k0_off12_inb k),
          tileG (sxt 2 v3 v7) (idi 2 v11) v5
          (rawTile (xTile x) (View.readAt (Elt F) arg7.view (Rect.unit (s := S1x1536x1152) (k0_off10 k) S1x256x1152.size (Gen.k0_off10_inb k)).toLoadRect X7))
          (fun n => View.readAt (Elt F) arg17.view (Rect.unit (s := S1536x128) (k0_off11 k (BitVec.ofNat 32 (8 * n.val))) S8x128.size (Gen.k0_off11_inb k n)).toLoadRect X17)
          (fun n => View.readAt (Elt F) arg18.view (Rect.unit (s := S1536x128) (k0_off11 k (BitVec.ofNat 32 (8 * n.val))) S8x128.size (Gen.k0_off11_inb k n)).toLoadRect X18)⟩] := by
  unfold tripL_k0_t3 trip_k0_t3; rfl

/-- Loop 4: the sums after a trip, -/
theorem tripR4 (v7 : Vec F S1x1536 .f32) (v11 : Vec F S1x1536 .i32) (v1438 : FVec F S1152x256 .f32) (v1439 : Vec F S1152x256 .f32) (x : Vec F S1x256x1152 .fp8e4m3)
    (k : Fin k0_t4_loop.trips) (acc : FVec F S8x256 .f32 × FVec F S8x256 .f32 × FVec F S8x256 .f32 × FVec F S8x256 .f32) :
    tripR_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 v1438 v1439 x X7 X17 X18 k acc
      = tileR (sxt 3 v3 v7) (idi 3 v11) v5
          (rawTile (xTile x) (View.readAt (Elt F) arg7.view (Rect.unit (s := S1x1536x1152) (k0_off14 k) S1x256x1152.size (Gen.k0_off14_inb k)).toLoadRect X7))
          (fun n => View.readAt (Elt F) arg17.view (Rect.unit (s := S1536x128) (k0_off15 k (BitVec.ofNat 32 (8 * n.val))) S8x128.size (Gen.k0_off15_inb k n)).toLoadRect X17)
          (fun n => View.readAt (Elt F) arg18.view (Rect.unit (s := S1536x128) (k0_off15 k (BitVec.ofNat 32 (8 * n.val))) S8x128.size (Gen.k0_off15_inb k n)).toLoadRect X18) acc := by
  unfold tripR_k0_t4 trip_k0_t4; rfl

/-- and the tile of gates it stores. -/
theorem tripL4 (v7 : Vec F S1x1536 .f32) (v11 : Vec F S1x1536 .i32) (v1438 : FVec F S1152x256 .f32) (v1439 : Vec F S1152x256 .f32) (x : Vec F S1x256x1152 .fp8e4m3)
    (k : Fin k0_t4_loop.trips) (acc : FVec F S8x256 .f32 × FVec F S8x256 .f32 × FVec F S8x256 .f32 × FVec F S8x256 .f32) :
    tripL_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 v1438 v1439 x X7 X17 X18 k acc
      = [⟨Rect.unit (s := S2x1536x256) (k0_off16 k) S1x256x256.size (Gen.k0_off16_inb k),
          tileG (sxt 3 v3 v7) (idi 3 v11) v5
          (rawTile (xTile x) (View.readAt (Elt F) arg7.view (Rect.unit (s := S1x1536x1152) (k0_off14 k) S1x256x1152.size (Gen.k0_off14_inb k)).toLoadRect X7))
          (fun n => View.readAt (Elt F) arg17.view (Rect.unit (s := S1536x128) (k0_off15 k (BitVec.ofNat 32 (8 * n.val))) S8x128.size (Gen.k0_off15_inb k n)).toLoadRect X17)
          (fun n => View.readAt (Elt F) arg18.view (Rect.unit (s := S1536x128) (k0_off15 k (BitVec.ofNat 32 (8 * n.val))) S8x128.size (Gen.k0_off15_inb k n)).toLoadRect X18)⟩] := by
  unfold tripL_k0_t4 trip_k0_t4; rfl

/-- Loop 5: the sums after a trip, -/
theorem tripR5 (v7 : Vec F S1x1536 .f32) (v11 : Vec F S1x1536 .i32) (x : Vec F S1x256x1152 .fp8e4m3)
    (k : Fin k0_t5_loop.trips) (acc : FVec F S8x256 .f32 × FVec F S8x256 .f32 × FVec F S8x256 .f32 × FVec F S8x256 .f32) :
    tripR_k0_t5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 x X7 X17 X18 k acc
      = tileR (sxt 4 v3 v7) (idi 4 v11) v5
          (rawTile (xTile x) (View.readAt (Elt F) arg7.view (Rect.unit (s := S1x1536x1152) (k0_off18 k) S1x256x1152.size (Gen.k0_off18_inb k)).toLoadRect X7))
          (fun n => View.readAt (Elt F) arg17.view (Rect.unit (s := S1536x128) (k0_off19 k (BitVec.ofNat 32 (8 * n.val))) S8x128.size (Gen.k0_off19_inb k n)).toLoadRect X17)
          (fun n => View.readAt (Elt F) arg18.view (Rect.unit (s := S1536x128) (k0_off19 k (BitVec.ofNat 32 (8 * n.val))) S8x128.size (Gen.k0_off19_inb k n)).toLoadRect X18) acc := by
  unfold tripR_k0_t5 trip_k0_t5; rfl

/-- and the tile of gates it stores. -/
theorem tripL5 (v7 : Vec F S1x1536 .f32) (v11 : Vec F S1x1536 .i32) (x : Vec F S1x256x1152 .fp8e4m3)
    (k : Fin k0_t5_loop.trips) (acc : FVec F S8x256 .f32 × FVec F S8x256 .f32 × FVec F S8x256 .f32 × FVec F S8x256 .f32) :
    tripL_k0_t5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 x X7 X17 X18 k acc
      = [⟨Rect.unit (s := S2x1536x256) (k0_off20 k) S1x256x256.size (Gen.k0_off20_inb k),
          tileG (sxt 4 v3 v7) (idi 4 v11) v5
          (rawTile (xTile x) (View.readAt (Elt F) arg7.view (Rect.unit (s := S1x1536x1152) (k0_off18 k) S1x256x1152.size (Gen.k0_off18_inb k)).toLoadRect X7))
          (fun n => View.readAt (Elt F) arg17.view (Rect.unit (s := S1536x128) (k0_off19 k (BitVec.ofNat 32 (8 * n.val))) S8x128.size (Gen.k0_off19_inb k n)).toLoadRect X17)
          (fun n => View.readAt (Elt F) arg18.view (Rect.unit (s := S1536x128) (k0_off19 k (BitVec.ofNat 32 (8 * n.val))) S8x128.size (Gen.k0_off19_inb k n)).toLoadRect X18)⟩] := by
  unfold tripL_k0_t5 trip_k0_t5; rfl

/-- Loop 6: the sums after a trip, -/
theorem tripR6 (v11 : Vec F S1x1536 .i32) (xm : FVec F S256x1152 .fp8e4m3) (sxt1 : FVec F S1x256 .f32)
    (k : Fin k0_t6_loop.trips) (acc : FVec F S8x256 .f32 × FVec F S8x256 .f32 × FVec F S8x256 .f32 × FVec F S8x256 .f32) :
    tripR_k0_t6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v11 xm sxt1 X7 X17 X18 k acc
      = tileR (sxt1) (idi 5 v11) v5
          (rawTile (xm) (View.readAt (Elt F) arg7.view (Rect.unit (s := S1x1536x1152) (k0_off22 k) S1x256x1152.size (Gen.k0_off22_inb k)).toLoadRect X7))
          (fun n => View.readAt (Elt F) arg17.view (Rect.unit (s := S1536x128) (k0_off23 k (BitVec.ofNat 32 (8 * n.val))) S8x128.size (Gen.k0_off23_inb k n)).toLoadRect X17)
          (fun n => View.readAt (Elt F) arg18.view (Rect.unit (s := S1536x128) (k0_off23 k (BitVec.ofNat 32 (8 * n.val))) S8x128.size (Gen.k0_off23_inb k n)).toLoadRect X18) acc := by
  unfold tripR_k0_t6 trip_k0_t6; rfl

/-- and the tile of gates it stores. -/
theorem tripL6 (v11 : Vec F S1x1536 .i32) (xm : FVec F S256x1152 .fp8e4m3) (sxt1 : FVec F S1x256 .f32)
    (k : Fin k0_t6_loop.trips) (acc : FVec F S8x256 .f32 × FVec F S8x256 .f32 × FVec F S8x256 .f32 × FVec F S8x256 .f32) :
    tripL_k0_t6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v11 xm sxt1 X7 X17 X18 k acc
      = [⟨Rect.unit (s := S2x1536x256) (k0_off24 k) S1x256x256.size (Gen.k0_off24_inb k),
          tileG (sxt1) (idi 5 v11) v5
          (rawTile (xm) (View.readAt (Elt F) arg7.view (Rect.unit (s := S1x1536x1152) (k0_off22 k) S1x256x1152.size (Gen.k0_off22_inb k)).toLoadRect X7))
          (fun n => View.readAt (Elt F) arg17.view (Rect.unit (s := S1536x128) (k0_off23 k (BitVec.ofNat 32 (8 * n.val))) S8x128.size (Gen.k0_off23_inb k n)).toLoadRect X17)
          (fun n => View.readAt (Elt F) arg18.view (Rect.unit (s := S1536x128) (k0_off23 k (BitVec.ofNat 32 (8 * n.val))) S8x128.size (Gen.k0_off23_inb k n)).toLoadRect X18)⟩] := by
  unfold tripL_k0_t6 trip_k0_t6; rfl

end Cert.KernelIdeal.Hand

end
-- ==== Proof.Posts.lean ====
/-
What each of the kernel's six inner loops leaves, given what its operands hold.

`post_of` turns a loop's loads into the rows they read; the six statements below it apply it to the six loops.
-/
module

public import proofs.«01_k».proof.Proof.State
public import proofs.«01_k».proof.Proof.Trip
import all proofs.«01_k».proof.Proof.Gen.KernelIdeal.Loops

@[expose] public section

set_option maxRecDepth 16384

noncomputable section

namespace Cert.KernelIdeal.Hand

open Idealize.ShloMosaic Idealize.ShloMosaic.TcCoe Cert.KernelIdeal.Gen Cert.Siglip

/-- A load through a rectangle of stride one, at an index. -/
theorem readAt_at {s : Shape} {κ : Kind} {sp : Space} {e : EltTy} (v : View sig κ sp s e) (off size : Fin s.rank → ℕ)
    (inb : ∀ a, off a + size a ≤ s.size a) (X : v.ty.Contents (Elt Ideal)) (x : (Rect.unit off size inb).shape.Idx) (y : s.Idx)
    (h : ∀ a, (y a).val = off a + (x a).val) :
    View.readAt (Elt Ideal) v (Rect.unit off size inb).toLoadRect X x = v.read (Elt Ideal) X y := by
  have e : (Rect.unit off size inb).emb x = y := Rect.emb_eq_of_coords _ x y fun a => by
    rw [h a]; show _ = off a + 1 * _; rw [Nat.one_mul]
  rw [← e]
  rfl

theorem sxt_apply (I : Fin 6) (t : FVec Ideal S1x1 .f32) (sx : Vec Ideal S1x1536 .f32) (c : Fin 256) :
    sxt I t sx (ix2 0 c) = (sx (ix2 0 (at256 I c)) : EReal) * (t (ix2 0 0) * c2e) := by
  pointwise [sxt]

theorem idi_apply (I : Fin 6) (ids : Vec Ideal S1x1536 .i32) (c : Fin 256) :
    idi (F := Ideal) I ids (ix2 0 c) = ids (ix2 0 (at256 I c)) := by
  pointwise [idi]

theorem xTile_apply (x : Vec Ideal S1x256x1152 .fp8e4m3) (c : Fin 256) (d : Fin 1152) :
    xTile (F := Ideal) x (ix2 c d) = x (ix3 0 c d) := by
  pointwise [xTile]

theorem rawTile_apply (x : FVec Ideal S256x1152 .fp8e4m3) (y : Vec Ideal S1x256x1152 .fp8e4m3) (r c : Fin 256) :
    rawTile x y (ix2 r c) = ∑ d : Fin 1152, (x (ix2 c d) : EReal) * y (ix3 0 r d) := by
  have h : ∀ d : Fin 1152, (x (ix2 c d) : EReal) * y (ix3 0 r d) = (y (ix3 0 r d) : EReal) * x (ix2 c d) := fun d => mul_comm _ _
  simp only [h]
  pointwise [rawTile, xTile]

section
variable (D : Batch) (I : Fin 6) (s : Fin 2)
  (sx : FVec Ideal S1x256 .f32) (ids : IVec S1x256 32) (b2 : Ideal .f32) (x : FVec Ideal S256x1152 .fp8e4m3)
  (hsx : ∀ c, sx (ix2 0 c) = D.SX (at256 I c) * (D.T * c2e)) (hids : ∀ c, ids (ix2 0 c) = D.ID (at256 I c))
  (hb2 : b2 = D.B * c2e) (hx : ∀ c d, x (ix2 c d) = D.X (at256 I c) d)
  (v7 : View sig .tc .vmem S1x1536x1152 .fp8e4m3) (X7 : v7.ty.Contents (Elt Ideal))
  (h7 : ∀ j d, v7.read (Elt Ideal) X7 (ix3 0 j d) = D.Y j d)
  (v17 : View sig .tc .vmem S1536x128 .f32) (X17 : v17.ty.Contents (Elt Ideal))
  (h17 : ∀ j l, v17.read (Elt Ideal) X17 (ix2 j l) = D.SY j)
  (v18 : View sig .tc .vmem S1536x128 .i32) (X18 : v18.ty.Contents (Elt Ideal))
  (h18 : ∀ j l, v18.read (Elt Ideal) X18 (ix2 j l) = D.ID j)
  (offY : Fin 6 → Fin 3 → ℕ) (inbY : ∀ k a, offY k a + S1x256x1152.size a ≤ S1x1536x1152.size a)
  (hoffY : ∀ k, offY k = ![0, 256 * k.val, 0])
  (offS : Fin 6 → Fin 32 → Fin 2 → ℕ) (inbS : ∀ k n a, offS k n a + S8x128.size a ≤ S1536x128.size a)
  (hoffS : ∀ k n, offS k n = ![256 * k.val + 8 * n.val, 0])
  (off : Fin 6 → Fin 3 → ℕ) (inb : ∀ k a, off k a + S1x256x256.size a ≤ S2x1536x256.size a)
  (hoff : ∀ k, off k = ![s.val, 256 * k.val, 0])
  (st : ℕ → Acc × GtPieces)
  (h0 : st 0 = ((fun _ => (0 : EReal), fun _ => (0 : EReal), fun _ => (0 : EReal), fun _ => (0 : EReal)), []))
  (hs : ∀ k : Fin 6, st (k.val + 1) = (tileR sx ids b2
      (rawTile x (View.readAt (Elt Ideal) v7 (Rect.unit (s := S1x1536x1152) (offY k) S1x256x1152.size (inbY k)).toLoadRect X7))
      (fun n => View.readAt (Elt Ideal) v17 (Rect.unit (s := S1536x128) (offS k n) S8x128.size (inbS k n)).toLoadRect X17)
      (fun n => View.readAt (Elt Ideal) v18 (Rect.unit (s := S1536x128) (offS k n) S8x128.size (inbS k n)).toLoadRect X18) (st k.val).1,
    [⟨Rect.unit (s := S2x1536x256) (off k) S1x256x256.size (inb k), tileG sx ids b2
      (rawTile x (View.readAt (Elt Ideal) v7 (Rect.unit (s := S1x1536x1152) (offY k) S1x256x1152.size (inbY k)).toLoadRect X7))
      (fun n => View.readAt (Elt Ideal) v17 (Rect.unit (s := S1536x128) (offS k n) S8x128.size (inbS k n)).toLoadRect X17)
      (fun n => View.readAt (Elt Ideal) v18 (Rect.unit (s := S1536x128) (offS k n) S8x128.size (inbS k n)).toLoadRect X18)⟩]
      ++ (st k.val).2))

include hsx hids hb2 hx h7 h17 h18 hoffY hoffS hoff h0 hs in
theorem post_of : LoopPost D I s (st 6) := by
  refine loop_post D I s sx ids b2 _ _ _ hsx hids hb2 ?_ ?_ ?_ st off inb hoff h0 hs
  · intro k r c
    rw [rawTile_apply]
    unfold Batch.raw
    refine Finset.sum_congr rfl fun d _ => ?_
    rw [hx, ← h7]
    refine congrArg (D.X (at256 I c) d * ·) (readAt_at _ _ _ _ _ _ _ fun a => ?_)
    fin_cases a <;> simp [hoffY]
  · intro k n r l
    rw [← h17 _ l]
    refine readAt_at _ _ _ _ _ _ _ fun a => ?_
    fin_cases a <;> simp [hoffS]
    omega
  · intro k n r l
    rw [← h18 _ l]
    refine readAt_at _ _ _ _ _ _ _ fun a => ?_
    fin_cases a <;> simp [hoffS]
    omega

end

section loops
variable (𝒱 : Variants) (c : Dev nD) (bd : Option 𝒱.V) (i : grid0.Coords) (arg1 : Memref sig .tc .smem S1x1 .f32)
  (harg1 : arg1.IsWhole) (arg2 : Memref sig .tc .smem S1x1 .f32) (harg2 : arg2.IsWhole)
  (arg3 : Memref sig .tc .vmem S3x1536 .f32) (harg3 : arg3.IsWhole) (arg4 : Memref sig .tc .vmem S3x1536 .f32)
  (harg4 : arg4.IsWhole) (arg5 : Memref sig .tc .vmem S3x1536 .i32) (harg5 : arg5.IsWhole)
  (arg6 : Memref sig .tc .vmem S1x1536x1152 .fp8e4m3) (harg6 : arg6.IsWhole)
  (arg7 : Memref sig .tc .vmem S1x1536x1152 .fp8e4m3) (harg7 : arg7.IsWhole) (arg8 : Memref sig .tc .vmem S3x1536 .f32)
  (harg8 : arg8.IsWhole) (arg9 : Memref sig .tc .vmem S1x1536x1152 .bf16) (harg9 : arg9.IsWhole)
  (arg10 : Memref sig .tc .vmem S1x1536x1152 .bf16) (harg10 : arg10.IsWhole) (arg11 : Memref sig .tc .vmem S3x1536 .f32)
  (harg11 : arg11.IsWhole) (arg12 : Memref sig .tc .vmem S3x1536 .f32) (harg12 : arg12.IsWhole)
  (arg13 : Memref sig .tc .vmem S1152x1536 .bf16) (harg13 : arg13.IsWhole) (arg14 : Memref sig .tc .vmem S1152x1536 .bf16)
  (harg14 : arg14.IsWhole) (arg15 : Memref sig .tc .vmem S2x1536x256 .bf16) (harg15 : arg15.IsWhole)
  (arg16 : Memref sig .tc .vmem S1152x1536 .f32) (harg16 : arg16.IsWhole) (arg17 : Memref sig .tc .vmem S1536x128 .f32)
  (harg17 : arg17.IsWhole) (arg18 : Memref sig .tc .vmem S1536x128 .i32) (harg18 : arg18.IsWhole)
  (D : Batch) (arg0 : BitVec 32) (v3 : FVec Ideal S1x1 .f32) (v5 : Ideal .f32)
  (X7 : BufTy.Contents (Elt Ideal) arg7.view.ty) (X17 : BufTy.Contents (Elt Ideal) arg17.view.ty)
  (X18 : BufTy.Contents (Elt Ideal) arg18.view.ty)
  (v7 : Vec Ideal S1x1536 .f32) (v11 : Vec Ideal S1x1536 .i32)
  (init : Acc) (hinit : init = (fun _ => (0 : EReal), fun _ => (0 : EReal), fun _ => (0 : EReal), fun _ => (0 : EReal)))
  (hT : v3 (ix2 0 0) = D.T) (hB : v5 = D.B * c2e) (hsx : ∀ a, v7 (ix2 0 a) = D.SX a) (hid : ∀ a, v11 (ix2 0 a) = D.ID a)
  (h7 : ∀ j d, arg7.view.read (Elt Ideal) X7 (ix3 0 j d) = D.Y j d)
  (h17 : ∀ j l, arg17.view.read (Elt Ideal) X17 (ix2 j l) = D.SY j)
  (h18 : ∀ j l, arg18.view.read (Elt Ideal) X18 (ix2 j l) = D.ID j)

include hinit hT hB hsx hid h7 h17 h18 in
/-- The first loop. -/
theorem post1 (v1197 : FVec Ideal S128x256 .bf16) (x : Vec Ideal S1x256x1152 .fp8e4m3)
    (hx : ∀ c d, x (ix3 0 c d) = D.X (at256 0 c) d) :
    LoopPost D 0 0 (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 v1197 x X7 X17 X18 init (Scf.trips k0_t1_loop.lb k0_t1_loop.ub k0_t1_loop.st)) := by
  subst hinit
  exact post_of D 0 0 (sxt 0 v3 v7) (idi 0 v11) v5 (xTile x) (fun c => by rw [sxt_apply, hsx, hT]) (fun c => by rw [idi_apply, hid]) hB (fun c d => by rw [xTile_apply, hx])
    arg7.view X7 h7 arg17.view X17 h17 arg18.view X18 h18
    (fun k => k0_off2 k) (fun k => Gen.k0_off2_inb k) (fun k => Gen.k0_off2_eq k)
    (fun k n => k0_off3 k (BitVec.ofNat 32 (8 * n.val))) (fun k n => Gen.k0_off3_inb k n) (fun k n => Gen.k0_off3_eq k n)
    (fun k => k0_off4 k) (fun k => Gen.k0_off4_inb k) (fun k => Gen.k0_off4_eq k)
    (fun n => st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 v1197 x X7 X17 X18 _ n) rfl
    (fun k => (st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 v1197 x X7 X17 X18 _ k).trans
      (Prod.ext (tripR1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v7 v11 v1197 x k _)
        (congrArg (· ++ _) (tripL1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v7 v11 v1197 x k _))))

include hinit hB hid h7 h17 h18 in
/-- The second loop. -/
theorem post2 (x : FVec Ideal S256x1152 .fp8e4m3) (sx : FVec Ideal S1x256 .f32)
    (hx : ∀ c d, x (ix2 c d) = D.X (at256 1 c) d) (hsx1 : ∀ c, sx (ix2 0 c) = D.SX (at256 1 c) * (D.T * c2e)) :
    LoopPost D 1 1 (st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v11 x sx X7 X17 X18 init (Scf.trips k0_t2_loop.lb k0_t2_loop.ub k0_t2_loop.st)) := by
  subst hinit
  exact post_of D 1 1 sx (idi 1 v11) v5 x hsx1 (fun c => by rw [idi_apply, hid]) hB hx
    arg7.view X7 h7 arg17.view X17 h17 arg18.view X18 h18
    (fun k => k0_off6 k) (fun k => Gen.k0_off6_inb k) (fun k => Gen.k0_off6_eq k)
    (fun k n => k0_off7 k (BitVec.ofNat 32 (8 * n.val))) (fun k n => Gen.k0_off7_inb k n) (fun k n => Gen.k0_off7_eq k n)
    (fun k => k0_off8 k) (fun k => Gen.k0_off8_inb k) (fun k => Gen.k0_off8_eq k)
    (fun n => st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v11 x sx X7 X17 X18 _ n) rfl
    (fun k => (st_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v11 x sx X7 X17 X18 _ k).trans
      (Prod.ext (tripR2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v11 x sx k _)
        (congrArg (· ++ _) (tripL2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v11 x sx k _))))

include hinit hT hB hsx hid h7 h17 h18 in
/-- The third loop. -/
theorem post3 (x : Vec Ideal S1x256x1152 .fp8e4m3)
    (hx : ∀ c d, x (ix3 0 c d) = D.X (at256 2 c) d) :
    LoopPost D 2 0 (st_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 x X7 X17 X18 init (Scf.trips k0_t3_loop.lb k0_t3_loop.ub k0_t3_loop.st)) := by
  subst hinit
  exact post_of D 2 0 (sxt 2 v3 v7) (idi 2 v11) v5 (xTile x) (fun c => by rw [sxt_apply, hsx, hT]) (fun c => by rw [idi_apply, hid]) hB (fun c d => by rw [xTile_apply, hx])
    arg7.view X7 h7 arg17.view X17 h17 arg18.view X18 h18
    (fun k => k0_off10 k) (fun k => Gen.k0_off10_inb k) (fun k => Gen.k0_off10_eq k)
    (fun k n => k0_off11 k (BitVec.ofNat 32 (8 * n.val))) (fun k n => Gen.k0_off11_inb k n) (fun k n => Gen.k0_off11_eq k n)
    (fun k => k0_off12 k) (fun k => Gen.k0_off12_inb k) (fun k => Gen.k0_off12_eq k)
    (fun n => st_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 x X7 X17 X18 _ n) rfl
    (fun k => (st_k0_t3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 x X7 X17 X18 _ k).trans
      (Prod.ext (tripR3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v7 v11 x k _)
        (congrArg (· ++ _) (tripL3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v7 v11 x k _))))

include hinit hT hB hsx hid h7 h17 h18 in
/-- The fourth loop. -/
theorem post4 (v1438 : FVec Ideal S1152x256 .f32) (v1439 : Vec Ideal S1152x256 .f32) (x : Vec Ideal S1x256x1152 .fp8e4m3)
    (hx : ∀ c d, x (ix3 0 c d) = D.X (at256 3 c) d) :
    LoopPost D 3 1 (st_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 v1438 v1439 x X7 X17 X18 init (Scf.trips k0_t4_loop.lb k0_t4_loop.ub k0_t4_loop.st)) := by
  subst hinit
  exact post_of D 3 1 (sxt 3 v3 v7) (idi 3 v11) v5 (xTile x) (fun c => by rw [sxt_apply, hsx, hT]) (fun c => by rw [idi_apply, hid]) hB (fun c d => by rw [xTile_apply, hx])
    arg7.view X7 h7 arg17.view X17 h17 arg18.view X18 h18
    (fun k => k0_off14 k) (fun k => Gen.k0_off14_inb k) (fun k => Gen.k0_off14_eq k)
    (fun k n => k0_off15 k (BitVec.ofNat 32 (8 * n.val))) (fun k n => Gen.k0_off15_inb k n) (fun k n => Gen.k0_off15_eq k n)
    (fun k => k0_off16 k) (fun k => Gen.k0_off16_inb k) (fun k => Gen.k0_off16_eq k)
    (fun n => st_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 v1438 v1439 x X7 X17 X18 _ n) rfl
    (fun k => (st_k0_t4_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 v1438 v1439 x X7 X17 X18 _ k).trans
      (Prod.ext (tripR4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v7 v11 v1438 v1439 x k _)
        (congrArg (· ++ _) (tripL4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v7 v11 v1438 v1439 x k _))))

include hinit hT hB hsx hid h7 h17 h18 in
/-- The fifth loop. -/
theorem post5 (x : Vec Ideal S1x256x1152 .fp8e4m3)
    (hx : ∀ c d, x (ix3 0 c d) = D.X (at256 4 c) d) :
    LoopPost D 4 0 (st_k0_t5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 x X7 X17 X18 init (Scf.trips k0_t5_loop.lb k0_t5_loop.ub k0_t5_loop.st)) := by
  subst hinit
  exact post_of D 4 0 (sxt 4 v3 v7) (idi 4 v11) v5 (xTile x) (fun c => by rw [sxt_apply, hsx, hT]) (fun c => by rw [idi_apply, hid]) hB (fun c d => by rw [xTile_apply, hx])
    arg7.view X7 h7 arg17.view X17 h17 arg18.view X18 h18
    (fun k => k0_off18 k) (fun k => Gen.k0_off18_inb k) (fun k => Gen.k0_off18_eq k)
    (fun k n => k0_off19 k (BitVec.ofNat 32 (8 * n.val))) (fun k n => Gen.k0_off19_inb k n) (fun k n => Gen.k0_off19_eq k n)
    (fun k => k0_off20 k) (fun k => Gen.k0_off20_inb k) (fun k => Gen.k0_off20_eq k)
    (fun n => st_k0_t5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 x X7 X17 X18 _ n) rfl
    (fun k => (st_k0_t5_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v7 v11 x X7 X17 X18 _ k).trans
      (Prod.ext (tripR5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v7 v11 x k _)
        (congrArg (· ++ _) (tripL5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v7 v11 x k _))))

include hinit hB hid h7 h17 h18 in
/-- The sixth loop. -/
theorem post6 (x : FVec Ideal S256x1152 .fp8e4m3) (sx : FVec Ideal S1x256 .f32)
    (hx : ∀ c d, x (ix2 c d) = D.X (at256 5 c) d) (hsx1 : ∀ c, sx (ix2 0 c) = D.SX (at256 5 c) * (D.T * c2e)) :
    LoopPost D 5 1 (st_k0_t6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v11 x sx X7 X17 X18 init (Scf.trips k0_t6_loop.lb k0_t6_loop.ub k0_t6_loop.st)) := by
  subst hinit
  exact post_of D 5 1 sx (idi 5 v11) v5 x hsx1 (fun c => by rw [idi_apply, hid]) hB hx
    arg7.view X7 h7 arg17.view X17 h17 arg18.view X18 h18
    (fun k => k0_off22 k) (fun k => Gen.k0_off22_inb k) (fun k => Gen.k0_off22_eq k)
    (fun k n => k0_off23 k (BitVec.ofNat 32 (8 * n.val))) (fun k n => Gen.k0_off23_inb k n) (fun k n => Gen.k0_off23_eq k n)
    (fun k => k0_off24 k) (fun k => Gen.k0_off24_inb k) (fun k => Gen.k0_off24_eq k)
    (fun n => st_k0_t6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v11 x sx X7 X17 X18 _ n) rfl
    (fun k => (st_k0_t6_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 v11 x sx X7 X17 X18 _ k).trans
      (Prod.ext (tripR6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v11 x sx k _)
        (congrArg (· ++ _) (tripL6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 v5 X7 X17 X18 v11 x sx k _))))

end loops

end Cert.KernelIdeal.Hand

end
-- ==== Proof.Stores.lean ====
/-
What the kernel's set-up leaves in its scratch: the texts' scales and the pair labels spread over lanes, and the two
matrices of scaled codes, transposed.
-/
module

public import proofs.«01_k».proof.Proof.Posts

@[expose] public section

set_option maxRecDepth 16384

noncomputable section

namespace Cert.KernelIdeal.Hand

open Idealize.ShloMosaic Idealize.ShloMosaic.TcCoe Cert.KernelIdeal.Gen Cert.Siglip

section spread
variable {α : Type}

/-- The twelve lane blocks of a row. -/
def ten : List (Fin 12) := [0, 1, 2, 3, 4, 5, 6, 7, 8, 9, 10, 11]

theorem ten_eq : ten = List.finRange 12 := by decide

theorem slicesLane (n : Fin 12) : S1x1536.Slices ![0, 128 * n.val] S1x128 := by
  revert n; decide

/-- Lane block `n` of a row, turned into sublanes and repeated over the lanes. -/
def spreadPart (x : S1x1536.Idx → α) (n : Fin 12) : S128x128.Idx → α :=
  transpose S128x128 [1, 0] (broadcastTo S128x128 (shapeCast S1x128 (extractStridedSlice S1x128 ![0, 128 * n.val] x (slicesLane n))
    Gen.facts.shapeCasts_S1x128_S1x128) Gen.facts.broadcasts_S1x128_S128x128) Gen.facts.transposes_S128x128_p1_0_S128x128

theorem concatTen (f : Fin 12 → S128x128.Idx → α) :
    Shape.Concatenates ((ten.map fun n => (⟨S128x128, f n⟩ : (s : Shape) × (s.Idx → α))).map (·.1)) S1536x128 0 :=
  Gen.facts.concatenates_S128x128_S128x128_S128x128_S128x128_S128x128_S128x128_S128x128_S128x128_S128x128_S128x128_S128x128_S128x128_S1536x128_d0

/-- A row, spread. -/
def spread (x : S1x1536.Idx → α) : S1536x128.Idx → α :=
  shapeCast S1536x128 (concatenate S1536x128 0 (ten.map fun n => ⟨S128x128, spreadPart x n⟩) (concatTen (spreadPart x)))
    Gen.facts.shapeCasts_S1536x128_S1536x128

theorem spreadPart_apply (x : S1x1536.Idx → α) (n : Fin 12) (r l : Fin 128) :
    spreadPart x n (ix2 r l) = x (ix2 0 (⟨128 * n.val + r.val, by omega⟩ : Fin 1536)) := by
  pointwise [spreadPart]

theorem concat_ten (G : Fin 12 → S128x128.Idx → α) (n : Fin 12) (r l : Fin 128) (j : Fin 1536) (hj : j.val = 128 * n.val + r.val) :
    concatenate S1536x128 0 (ten.map fun n => (⟨S128x128, G n⟩ : (s : Shape) × (s.Idx → α))) (concatTen G)
      (ix2 j l) = G n (ix2 r l) := by
  have e : (ten.map fun n => (⟨S128x128, G n⟩ : (s : Shape) × (s.Idx → α)))
      = List.ofFn fun n : Fin 12 => ⟨S128x128, G n⟩ := by rw [ten_eq, List.ofFn_eq_map]
  have key : ∀ (xs ys : List ((s : Shape) × (s.Idx → α))) (h : xs = ys)
      (hx : Shape.Concatenates (xs.map (·.1)) S1536x128 0) (j : S1536x128.Idx),
      concatenate S1536x128 0 xs hx j = concatenate S1536x128 0 ys (h ▸ hx) j := by
    rintro xs _ rfl hx j; rfl
  rw [key _ _ e]
  refine concatenate_ofFn_apply (t := S1536x128) (s₁ := S128x128) 0 G _ rfl 128 rfl _ n ?_ _ ?_ ?_
  · show j.val / 128 = n.val
    omega
  · show r.val = j.val % 128
    omega
  · intro b hb
    fin_cases b
    · exact absurd rfl hb
    · rfl

theorem spread_apply (x : S1x1536.Idx → α) (j : Fin 1536) (l : Fin 128) : spread x (ix2 j l) = x (ix2 0 j) := by
  have h := concat_ten (spreadPart x) ⟨j.val / 128, by omega⟩ ⟨j.val % 128, Nat.mod_lt _ (by decide)⟩ l j (by dsimp; omega)
  unfold spread
  rw [shapeCast_self, h, spreadPart_apply]
  congr 2
  exact Fin.ext (by dsimp; omega)

end spread

section codes
variable {F : FTy → Type} [FloatOps F]

/-- The blocks of a transposed matrix of codes, the last written first. -/
def tiles : List (Fin 6 × Fin 9) :=
  [(5, 8), (5, 7), (5, 6), (5, 5), (5, 4), (5, 3), (5, 2), (5, 1), (5, 0), (4, 8), (4, 7), (4, 6), (4, 5), (4, 4), (4, 3),
   (4, 2), (4, 1), (4, 0), (3, 8), (3, 7), (3, 6), (3, 5), (3, 4), (3, 3), (3, 2), (3, 1), (3, 0), (2, 8), (2, 7), (2, 6),
   (2, 5), (2, 4), (2, 3), (2, 2), (2, 1), (2, 0), (1, 8), (1, 7), (1, 6), (1, 5), (1, 4), (1, 3), (1, 2), (1, 1), (1, 0),
   (0, 8), (0, 7), (0, 6), (0, 5), (0, 4), (0, 3), (0, 2), (0, 1), (0, 0)]

theorem mem_tiles (k : Fin 6) (b : Fin 9) : (k, b) ∈ tiles := by
  revert k b; decide

theorem inbStore (t : Fin 6 × Fin 9) (a : Fin 2) : (![128 * t.2.val, 256 * t.1.val] : Fin 2 → ℕ) a + S128x256.size a ≤ S1152x1536.size a := by
  revert t a; decide
theorem inbLoad (t : Fin 6 × Fin 9) (a : Fin 3) : (![0, 256 * t.1.val, 128 * t.2.val] : Fin 3 → ℕ) a + S1x256x128.size a ≤ S1x1536x1152.size a := by
  revert t a; decide

/-- One block of codes, transposed and scaled. -/
def scaledTile (w : Vec F S1x256x128 .fp8e4m3) (s : Vec F S1x1536 .f32) (k : Fin 6) : FVec F S128x256 .bf16 :=
  shapeCast S128x256 (mulf (transpose S128x256 [1, 0] (extf .bf16 (shapeCast S256x128 w
      Gen.facts.shapeCasts_S1x256x128_S256x128) (by decide)) Gen.facts.transposes_S256x128_p1_0_S128x256)
    (broadcastTo S128x256 (extractStridedSlice S1x256 ![0, 256 * k.val] (truncf .bf16 s Gen.facts.bitsLt_bf16_f32) (slicesBlock k))
      Gen.facts.broadcasts_S1x256_S128x256)) Gen.facts.shapeCasts_S128x256_S128x256

/-- The same, of the block a load finds. -/
def codeTile (v : View sig .tc .vmem S1x1536x1152 .fp8e4m3) (X : v.ty.Contents (Elt F)) (s : Vec F S1x1536 .f32) (t : Fin 6 × Fin 9) :
    FVec F S128x256 .bf16 :=
  scaledTile (View.readAt (Elt F) v (Rect.unit (s := S1x1536x1152) ![0, 256 * t.1.val, 128 * t.2.val] S1x256x128.size (inbLoad t)).toLoadRect X)
    s t.1

/-- The stores that fill a transposed matrix of scaled codes. -/
def codePieces (v : View sig .tc .vmem S1x1536x1152 .fp8e4m3) (X : v.ty.Contents (Elt F)) (s : Vec F S1x1536 .f32) :
    List (View.Piece (Elt F) S1152x1536 .bf16) :=
  tiles.map fun t => ⟨Rect.unit (s := S1152x1536) ![128 * t.2.val, 256 * t.1.val] S128x256.size (inbStore t), codeTile v X s t⟩

end codes

end Cert.KernelIdeal.Hand

end
-- ==== Proof.Reads.lean ====
/-
What the kernel reads: the batch a grid point stands for, and the values its loads find.
-/
module

public import proofs.«01_k».proof.Proof.Stores
public import proofs.«01_k».proof.Proof.Run
import all proofs.«01_k».proof.Proof.Run

@[expose] public section

set_option maxRecDepth 16384

noncomputable section

namespace Cert.KernelIdeal.Hand

open Idealize.ShloMosaic Idealize.ShloMosaic.TcCoe Cert.KernelIdeal.Gen Cert.Siglip

/-! ## Their values -/

section values
theorem scaledTile_apply (w : Vec Ideal S1x256x128 .fp8e4m3) (s : Vec Ideal S1x1536 .f32) (k : Fin 6) (d : Fin 128) (a : Fin 256) :
    scaledTile w s k (ix2 d a) = (w (ix3 0 a d) : EReal) * s (ix2 0 (at256 k a)) := by
  pointwise [scaledTile]

theorem codeTile_apply (v : View sig .tc .vmem S1x1536x1152 .fp8e4m3) (X : v.ty.Contents (Elt Ideal)) (s : Vec Ideal S1x1536 .f32)
    (t : Fin 6 × Fin 9) (d : Fin 128) (a : Fin 256) :
    codeTile v X s t (ix2 d a)
      = v.read (Elt Ideal) X (ix3 0 (at256 t.1 a) (⟨128 * t.2.val + d.val, by omega⟩ : Fin 1152)) * s (ix2 0 (at256 t.1 a)) := by
  have hr := readAt_at v ![0, 256 * t.1.val, 128 * t.2.val] S1x256x128.size (inbLoad t) X (ix3 0 a d)
    (ix3 0 (at256 t.1 a) (⟨128 * t.2.val + d.val, by omega⟩ : Fin 1152)) (fun b => by fin_cases b <;> rfl)
  rw [← hr]
  exact scaledTile_apply _ s t.1 d a

/-- The matrix of codes scaled and transposed, once its blocks are stored. -/
theorem codes_read (w : View sig .tc .vmem S1152x1536 .bf16) (f : w.ty.Contents (Elt Ideal))
    (v : View sig .tc .vmem S1x1536x1152 .fp8e4m3) (X : v.ty.Contents (Elt Ideal)) (s : Vec Ideal S1x1536 .f32)
    (d : Fin 1152) (a : Fin 1536) :
    w.read (Elt Ideal) (w.writes (Elt Ideal) f (codePieces v X s)) (ix2 d a)
      = v.read (Elt Ideal) X (ix3 0 a d) * s (ix2 0 a) := by
  have hG := View.read_writes_apply_of_pieces w f
    (fun y : S1152x1536.Idx => v.read (Elt Ideal) X (ix3 0 (y 1 : Fin 1536) (y 0 : Fin 1152)) * s (ix2 0 (y 1 : Fin 1536)))
    (codePieces v X s) ?_ (ix2 d a) ?_
  · exact hG
  · intro p hp x
    obtain ⟨t, -, rfl⟩ := List.mem_map.mp hp
    have hx : x = ix2 (x 0 : Fin 128) (x 1 : Fin 256) := by funext b; fin_cases b <;> rfl
    rw [hx]
    refine (codeTile_apply v X s t _ _).trans ?_
    have e0 : (Rect.unit (s := S1152x1536) ![128 * t.2.val, 256 * t.1.val] S128x256.size (inbStore t)).emb (ix2 (x 0 : Fin 128) (x 1 : Fin 256)) 0
        = (⟨128 * t.2.val + (x 0).val, by have := (x 0).isLt; change (x 0).val < 128 at this; omega⟩ : Fin 1152) :=
      Fin.ext (by rw [Rect.emb_apply]; show 128 * t.2.val + 1 * (x 0).val = 128 * t.2.val + (x 0).val; omega)
    have e1 : (Rect.unit (s := S1152x1536) ![128 * t.2.val, 256 * t.1.val] S128x256.size (inbStore t)).emb (ix2 (x 0 : Fin 128) (x 1 : Fin 256)) 1
        = at256 t.1 (x 1 : Fin 256) :=
      Fin.ext (by rw [Rect.emb_apply]; show 256 * t.1.val + 1 * (x 1).val = 256 * t.1.val + (x 1).val; omega)
    exact (congrArg₂ (fun (p : Fin 1152) (q : Fin 1536) => v.read (Elt Ideal) X (ix3 0 q p) * s (ix2 0 q)) e0 e1).symm
  · refine ⟨_, List.mem_map.mpr ⟨_, mem_tiles ⟨a.val / 256, by omega⟩ ⟨d.val / 128, by omega⟩, rfl⟩, ?_⟩
    refine (Rect.mem_set_unit (s := S1152x1536) (inb := inbStore (⟨a.val / 256, by omega⟩, ⟨d.val / 128, by omega⟩))).mpr fun b => ?_
    fin_cases b
    · show 128 * (d.val / 128) ≤ d.val ∧ d.val < 128 * (d.val / 128) + 128
      omega
    · show 256 * (a.val / 256) ≤ a.val ∧ a.val < 256 * (a.val / 256) + 256
      omega

section run
variable (c : Dev nD) (i : grid0.Coords)
  (arg1 : Memref sig .tc .smem S1x1 .f32) (harg1 : arg1.IsWhole) (arg2 : Memref sig .tc .smem S1x1 .f32) (harg2 : arg2.IsWhole)
  (arg3 : Memref sig .tc .vmem S3x1536 .f32) (harg3 : arg3.IsWhole) (arg4 : Memref sig .tc .vmem S3x1536 .f32) (harg4 : arg4.IsWhole)
  (arg5 : Memref sig .tc .vmem S3x1536 .i32) (harg5 : arg5.IsWhole)
  (arg6 : Memref sig .tc .vmem S1x1536x1152 .fp8e4m3) (harg6 : arg6.IsWhole)
  (arg7 : Memref sig .tc .vmem S1x1536x1152 .fp8e4m3) (harg7 : arg7.IsWhole)
  (x0 x1 : Vec Ideal S1x1 .f32) (x2 x3 : Vec Ideal S3x1536 .f32) (x4 : Vec Ideal S3x1536 .i32)
  (x5 x6 : Vec Ideal S1x1536x1152 .fp8e4m3)

theorem HS0_54_eq : run.sl.HS0_54 (F := Ideal) c i arg3 harg3 arg6 harg6 x2 x5
    = codePieces (F := Ideal) arg6.view (harg6.unread x5) (run.sl.r_4 c i arg3 harg3 x2) := rfl
theorem HS1_54_eq : run.sl.HS1_54 (F := Ideal) c i arg4 harg4 arg7 harg7 x3 x6
    = codePieces (F := Ideal) arg7.view (harg7.unread x6) (run.sl.r_5 c i arg4 harg4 x3) := rfl
theorem v63_eq : run.sl.v63 (F := Ideal) c i arg4 harg4 x3 = spread (run.sl.r_5 (F := Ideal) c i arg4 harg4 x3) := rfl
theorem v115_eq : run.sl.v115 (F := Ideal) c i arg5 harg5 x4 = spread (run.sl.r_6 (F := Ideal) c i arg5 harg5 x4) := rfl

/-- The batch of a grid point: its codes, its rows of scales and labels, the temperature and the bias. -/
def batchOf : Batch where
  X a d := x5 (ix3 0 a d)
  Y a d := x6 (ix3 0 a d)
  SX a := x2 (ix2 (i 0 : Fin 3) a)
  SY a := x3 (ix2 (i 0 : Fin 3) a)
  ID a := x4 (ix2 (i 0 : Fin 3) a)
  T := Ideal.exp (x0 (ix2 0 0))
  B := x1 (ix2 0 0)

theorem r_4_apply (a : Fin 1536) : run.sl.r_4 (F := Ideal) c i arg3 harg3 x2 (ix2 0 a) = x2 (ix2 (i 0 : Fin 3) a) := by
  refine (readAt_at arg3.view (k0_off1 i) S1x1536.size (k0_off1_inb i) _ _ (ix2 (i 0 : Fin 3) a) fun b => ?_).trans
    (congrFun (harg3.read_unread _) _)
  refine Eq.trans ?_ (congrArg (fun o : Fin 2 → ℕ => o b + (ix2 (0 : Fin 1) a b : ℕ)) (Gen.k0_off1_eq i).symm)
  fin_cases b
  · rfl
  · exact (Nat.zero_add _).symm

theorem r_5_apply (a : Fin 1536) : run.sl.r_5 (F := Ideal) c i arg4 harg4 x3 (ix2 0 a) = x3 (ix2 (i 0 : Fin 3) a) := by
  refine (readAt_at arg4.view (k0_off1 i) S1x1536.size (k0_off1_inb i) _ _ (ix2 (i 0 : Fin 3) a) fun b => ?_).trans
    (congrFun (harg4.read_unread _) _)
  refine Eq.trans ?_ (congrArg (fun o : Fin 2 → ℕ => o b + (ix2 (0 : Fin 1) a b : ℕ)) (Gen.k0_off1_eq i).symm)
  fin_cases b
  · rfl
  · exact (Nat.zero_add _).symm

theorem r_6_apply (a : Fin 1536) : run.sl.r_6 (F := Ideal) c i arg5 harg5 x4 (ix2 0 a) = x4 (ix2 (i 0 : Fin 3) a) := by
  refine (readAt_at arg5.view (k0_off1 i) S1x1536.size (k0_off1_inb i) _ _ (ix2 (i 0 : Fin 3) a) fun b => ?_).trans
    (congrFun (harg5.read_unread _) _)
  refine Eq.trans ?_ (congrArg (fun o : Fin 2 → ℕ => o b + (ix2 (0 : Fin 1) a b : ℕ)) (Gen.k0_off1_eq i).symm)
  fin_cases b
  · rfl
  · exact (Nat.zero_add _).symm

theorem pay1892_apply (t : Ideal .f32) : (k0_pay1892 (F := Ideal) t (ix2 0 0) : EReal) = Ideal.exp t := by
  pointwise [k0_pay1892]

theorem r_apply : run.sl.r (F := Ideal) c arg1 harg1 x0 = x0 (ix2 0 0) := by
  exact (readAt_at arg1.view _ _ _ _ _ (ix2 0 0) fun b => by fin_cases b <;> rfl).trans (congrFun (harg1.read_unread _) _)

theorem r_1_apply : run.sl.r_1 (F := Ideal) c arg2 harg2 x1 = x1 (ix2 0 0) := by
  exact (readAt_at arg2.view _ _ _ _ _ (ix2 0 0) fun b => by fin_cases b <;> rfl).trans (congrFun (harg2.read_unread _) _)

theorem r_2_apply : run.sl.r_2 (F := Ideal) c arg1 harg1 x0 (ix2 0 0) = Ideal.exp (x0 (ix2 0 0)) := by
  refine (pay1892_apply _).trans (congrArg Ideal.exp (r_apply c arg1 harg1 x0))

theorem r_3_apply : run.sl.r_3 (F := Ideal) c arg2 harg2 x1 = (x1 (ix2 0 0) : EReal) * c2e := by
  have h : k0_pay1893 (F := Ideal) (run.sl.r_1 (F := Ideal) c arg2 harg2 x1) = (run.sl.r_1 (F := Ideal) c arg2 harg2 x1 : EReal) * c2e := by
    pointwise [k0_pay1893]
  exact h.trans (congrArg (fun z : EReal => z * c2e) (r_1_apply c arg2 harg2 x1))

theorem whole_read {e : EltTy} (v : View sig .tc .vmem S1536x128 e) (f : v.ty.Contents (Elt Ideal))
    (inb : ∀ a, (![0, 0] : Fin 2 → ℕ) a + S1536x128.size a ≤ S1536x128.size a) (w : S1536x128.Idx → Elt Ideal e) (j : Fin 1536) (l : Fin 128) :
    v.read (Elt Ideal) (v.writes (Elt Ideal) f [⟨Rect.unit (s := S1536x128) ![0, 0] S1536x128.size inb, w⟩]) (ix2 j l) = w (ix2 j l) :=
  View.read_writes_cons_hit_of_coords v f (Rect.unit (s := S1536x128) ![0, 0] S1536x128.size inb) w [] (ix2 j l) (ix2 j l) fun b => by
    fin_cases b <;> simp

theorem sy_read (v : View sig .tc .vmem S1536x128 .f32) (f : v.ty.Contents (Elt Ideal)) (j : Fin 1536) (l : Fin 128) :
    v.read (Elt Ideal) (v.writes (Elt Ideal) f (run.sl.HS4_1 (F := Ideal) c i arg4 harg4 x3)) (ix2 j l) = x3 (ix2 (i 0 : Fin 3) j) := by
  refine (whole_read v f _ (run.sl.v63 (F := Ideal) c i arg4 harg4 x3) j l).trans ?_
  rw [v63_eq, spread_apply, r_5_apply]

theorem id_read (v : View sig .tc .vmem S1536x128 .i32) (f : v.ty.Contents (Elt Ideal)) (j : Fin 1536) (l : Fin 128) :
    v.read (Elt Ideal) (v.writes (Elt Ideal) f (run.sl.HS5_1 (F := Ideal) c i arg5 harg5 x4)) (ix2 j l) = x4 (ix2 (i 0 : Fin 3) j) := by
  refine (whole_read v f _ (run.sl.v115 (F := Ideal) c i arg5 harg5 x4) j l).trans ?_
  rw [v115_eq, spread_apply, r_6_apply]

theorem y_read (j : Fin 1536) (d : Fin 1152) : arg7.view.read (Elt Ideal) (harg7.unread x6) (ix3 0 j d) = x6 (ix3 0 j d) :=
  congrFun (harg7.read_unread _) _

theorem x_load (I : Fin 6) (inb : ∀ a, (![0, 256 * I.val, 0] : Fin 3 → ℕ) a + S1x256x1152.size a ≤ S1x1536x1152.size a) (r : Fin 256) (d : Fin 1152) :
    View.readAt (Elt Ideal) arg6.view (Rect.unit (s := S1x1536x1152) ![0, 256 * I.val, 0] S1x256x1152.size inb).toLoadRect (harg6.unread x5)
      (ix3 0 r d) = x5 (ix3 0 (at256 I r) d) :=
  (readAt_at arg6.view _ _ _ _ _ (ix3 0 (at256 I r) d) fun b => by fin_cases b <;> simp).trans (congrFun (harg6.read_unread _) _)

theorem r_20_apply (r : Fin 256) (d : Fin 1152) : run.sl.r_20 (F := Ideal) c arg6 harg6 x5 (ix2 r d) = x5 (ix3 0 (at256 1 r) d) :=
  (xTile_apply _ r d).trans (x_load arg6 harg6 x5 1 _ r d)

theorem r_21_apply (r : Fin 256) : run.sl.r_21 (F := Ideal) c i arg1 harg1 arg3 harg3 x0 x2 (ix2 0 r)
    = (x2 (ix2 (i 0 : Fin 3) (at256 1 r)) : EReal) * (Ideal.exp (x0 (ix2 0 0)) * c2e) := by
  refine (sxt_apply 1 _ _ r).trans ?_
  rw [r_4_apply, r_2_apply]

theorem r_24_apply (r : Fin 256) (d : Fin 1152) : run.sl.r_24 (F := Ideal) c arg6 harg6 x5 (ix2 r d) = x5 (ix3 0 (at256 5 r) d) :=
  (xTile_apply _ r d).trans (x_load arg6 harg6 x5 5 _ r d)

theorem r_25_apply (r : Fin 256) : run.sl.r_25 (F := Ideal) c i arg1 harg1 arg3 harg3 x0 x2 (ix2 0 r)
    = (x2 (ix2 (i 0 : Fin 3) (at256 5 r)) : EReal) * (Ideal.exp (x0 (ix2 0 0)) * c2e) := by
  refine (sxt_apply 5 _ _ r).trans ?_
  rw [r_4_apply, r_2_apply]

end run
end values

end Cert.KernelIdeal.Hand

end
-- ==== Proof.Sums.lean ====
/-
The six inner loops of the kernel's body, with what each leaves.
-/
module

public import proofs.«01_k».proof.Proof.Reads
import all proofs.«01_k».proof.Proof.Run

@[expose] public section

set_option maxRecDepth 16384

noncomputable section

namespace Cert.KernelIdeal.Hand

open Idealize.ShloMosaic Idealize.ShloMosaic.TcCoe Cert.KernelIdeal.Gen Cert.Siglip

section
variable (c : Dev nD) (i : grid0.Coords)
  (arg1 : Memref sig .tc .smem S1x1 .f32) (harg1 : arg1.IsWhole)
  (arg2 : Memref sig .tc .smem S1x1 .f32) (harg2 : arg2.IsWhole)
  (arg3 : Memref sig .tc .vmem S3x1536 .f32) (harg3 : arg3.IsWhole)
  (arg4 : Memref sig .tc .vmem S3x1536 .f32) (harg4 : arg4.IsWhole)
  (arg5 : Memref sig .tc .vmem S3x1536 .i32) (harg5 : arg5.IsWhole)
  (arg6 : Memref sig .tc .vmem S1x1536x1152 .fp8e4m3) (harg6 : arg6.IsWhole)
  (arg7 : Memref sig .tc .vmem S1x1536x1152 .fp8e4m3) (harg7 : arg7.IsWhole)
  (arg8 : Memref sig .tc .vmem S3x1536 .f32) (harg8 : arg8.IsWhole)
  (arg9 : Memref sig .tc .vmem S1x1536x1152 .bf16) (harg9 : arg9.IsWhole)
  (arg10 : Memref sig .tc .vmem S1x1536x1152 .bf16) (harg10 : arg10.IsWhole)
  (arg11 : Memref sig .tc .vmem S3x1536 .f32) (harg11 : arg11.IsWhole)
  (arg12 : Memref sig .tc .vmem S3x1536 .f32) (harg12 : arg12.IsWhole)
  (arg13 : Memref sig .tc .vmem S1152x1536 .bf16) (harg13 : arg13.IsWhole)
  (arg14 : Memref sig .tc .vmem S1152x1536 .bf16) (harg14 : arg14.IsWhole)
  (arg15 : Memref sig .tc .vmem S2x1536x256 .bf16) (harg15 : arg15.IsWhole)
  (arg16 : Memref sig .tc .vmem S1152x1536 .f32) (harg16 : arg16.IsWhole)
  (arg17 : Memref sig .tc .vmem S1536x128 .f32) (harg17 : arg17.IsWhole)
  (arg18 : Memref sig .tc .vmem S1536x128 .i32) (harg18 : arg18.IsWhole)
  (x0 x1 : Vec Ideal S1x1 .f32) (x2 x3 : Vec Ideal S3x1536 .f32) (x4 : Vec Ideal S3x1536 .i32)
  (x5 x6 : Vec Ideal S1x1536x1152 .fp8e4m3) (s2 : Vec Ideal S2x1536x256 .bf16)

theorem four_zero (w : FVec Ideal S8x256 .f32) (h : w = fun _ => (0 : EReal)) :
    ((w, w, w, w) : Acc) = (fun _ => (0 : EReal), fun _ => (0 : EReal), fun _ => (0 : EReal), fun _ => (0 : EReal)) := by
  subst h; rfl

theorem k0_pay2047_zero : (k0_pay2047 : FVec Ideal S8x256 .f32) = fun _ => (0 : EReal) := by
  funext x
  have hx : x = ix2 (x 0 : Fin 8) (x 1 : Fin 256) := by funext b; fin_cases b <;> rfl
  rw [hx]
  pointwise [k0_pay2047]

theorem k0_pay2054_zero : (k0_pay2054 : FVec Ideal S8x256 .f32) = fun _ => (0 : EReal) := by
  funext x
  have hx : x = ix2 (x 0 : Fin 8) (x 1 : Fin 256) := by funext b; fin_cases b <;> rfl
  rw [hx]
  pointwise [k0_pay2054]

theorem k0_pay2070_zero : (k0_pay2070 : FVec Ideal S8x256 .f32) = fun _ => (0 : EReal) := by
  funext x
  have hx : x = ix2 (x 0 : Fin 8) (x 1 : Fin 256) := by funext b; fin_cases b <;> rfl
  rw [hx]
  pointwise [k0_pay2070]

theorem k0_pay2089_zero : (k0_pay2089 : FVec Ideal S8x256 .f32) = fun _ => (0 : EReal) := by
  funext x
  have hx : x = ix2 (x 0 : Fin 8) (x 1 : Fin 256) := by funext b; fin_cases b <;> rfl
  rw [hx]
  pointwise [k0_pay2089]

theorem k0_pay2105_zero : (k0_pay2105 : FVec Ideal S8x256 .f32) = fun _ => (0 : EReal) := by
  funext x
  have hx : x = ix2 (x 0 : Fin 8) (x 1 : Fin 256) := by funext b; fin_cases b <;> rfl
  rw [hx]
  pointwise [k0_pay2105]

theorem k0_pay2124_zero : (k0_pay2124 : FVec Ideal S8x256 .f32) = fun _ => (0 : EReal) := by
  funext x
  have hx : x = ix2 (x 0 : Fin 8) (x 1 : Fin 256) := by funext b; fin_cases b <;> rfl
  rw [hx]
  pointwise [k0_pay2124]

/-- Where loop 1 ends. -/
def st1 : Acc × GtPieces :=
  st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 0)) (run.sl.r_2 (F := Ideal) c arg1 harg1 x0) (run.sl.r_3 (F := Ideal) c arg2 harg2 x1) (run.sl.r_4 (F := Ideal) c i arg3 harg3 x2) (run.sl.r_6 (F := Ideal) c i arg5 harg5 x4) (run.sl.v1197 (F := Ideal) c i arg4 harg4 arg7 harg7 x3 x6) (View.readAt (Elt Ideal) arg6.view (Rect.unit (s := S1x1536x1152) ![0, 0, 0] S1x256x1152.size inb_S1x1536x1152_S1x256x1152_0_0_0).toLoadRect (harg6.unread x5)) (harg7.unread x6) (arg17.view.writes (Elt Ideal) arg17.view.junk (run.sl.HS4_1 (F := Ideal) c i arg4 harg4 x3)) (arg18.view.writes (Elt Ideal) arg18.view.junk (run.sl.HS5_1 (F := Ideal) c i arg5 harg5 x4)) (k0_pay2047, k0_pay2047, k0_pay2047, k0_pay2047) (Scf.trips k0_t1_loop.lb k0_t1_loop.ub k0_t1_loop.st)

/-- Where loop 2 ends. -/
def st2 : Acc × GtPieces :=
  st_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 0)) (run.sl.r_2 (F := Ideal) c arg1 harg1 x0) (run.sl.r_3 (F := Ideal) c arg2 harg2 x1) (run.sl.r_6 (F := Ideal) c i arg5 harg5 x4) (run.sl.r_20 (F := Ideal) c arg6 harg6 x5) (run.sl.r_21 (F := Ideal) c i arg1 harg1 arg3 harg3 x0 x2) (harg7.unread x6) (arg17.view.writes (Elt Ideal) arg17.view.junk (run.sl.HS4_1 (F := Ideal) c i arg4 harg4 x3)) (arg18.view.writes (Elt Ideal) arg18.view.junk (run.sl.HS5_1 (F := Ideal) c i arg5 harg5 x4)) (k0_pay2054, k0_pay2054, k0_pay2054, k0_pay2054) (Scf.trips k0_t2_loop.lb k0_t2_loop.ub k0_t2_loop.st)

/-- Where loop 3 ends. -/
def st3 : Acc × GtPieces :=
  st_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 0)) (run.sl.r_2 (F := Ideal) c arg1 harg1 x0) (run.sl.r_3 (F := Ideal) c arg2 harg2 x1) (run.sl.r_4 (F := Ideal) c i arg3 harg3 x2) (run.sl.r_6 (F := Ideal) c i arg5 harg5 x4) (View.readAt (Elt Ideal) arg6.view (Rect.unit (s := S1x1536x1152) ![0, 512, 0] S1x256x1152.size inb_S1x1536x1152_S1x256x1152_0_512_0).toLoadRect (harg6.unread x5)) (harg7.unread x6) (arg17.view.writes (Elt Ideal) arg17.view.junk (run.sl.HS4_1 (F := Ideal) c i arg4 harg4 x3)) (arg18.view.writes (Elt Ideal) arg18.view.junk (run.sl.HS5_1 (F := Ideal) c i arg5 harg5 x4)) (k0_pay2070, k0_pay2070, k0_pay2070, k0_pay2070) (Scf.trips k0_t3_loop.lb k0_t3_loop.ub k0_t3_loop.st)

/-- Where loop 4 ends. -/
def st4 : Acc × GtPieces :=
  st_k0_t4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 0)) (run.sl.r_2 (F := Ideal) c arg1 harg1 x0) (run.sl.r_3 (F := Ideal) c arg2 harg2 x1) (run.sl.r_4 (F := Ideal) c i arg3 harg3 x2) (run.sl.r_6 (F := Ideal) c i arg5 harg5 x4) (run.sl.v1438 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) (run.sl.v1439 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) (View.readAt (Elt Ideal) arg6.view (Rect.unit (s := S1x1536x1152) ![0, 768, 0] S1x256x1152.size inb_S1x1536x1152_S1x256x1152_0_768_0).toLoadRect (harg6.unread x5)) (harg7.unread x6) (arg17.view.writes (Elt Ideal) arg17.view.junk (run.sl.HS4_1 (F := Ideal) c i arg4 harg4 x3)) (arg18.view.writes (Elt Ideal) arg18.view.junk (run.sl.HS5_1 (F := Ideal) c i arg5 harg5 x4)) (k0_pay2089, k0_pay2089, k0_pay2089, k0_pay2089) (Scf.trips k0_t4_loop.lb k0_t4_loop.ub k0_t4_loop.st)

/-- Where loop 5 ends. -/
def st5 : Acc × GtPieces :=
  st_k0_t5 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 0)) (run.sl.r_2 (F := Ideal) c arg1 harg1 x0) (run.sl.r_3 (F := Ideal) c arg2 harg2 x1) (run.sl.r_4 (F := Ideal) c i arg3 harg3 x2) (run.sl.r_6 (F := Ideal) c i arg5 harg5 x4) (View.readAt (Elt Ideal) arg6.view (Rect.unit (s := S1x1536x1152) ![0, 1024, 0] S1x256x1152.size inb_S1x1536x1152_S1x256x1152_0_1024_0).toLoadRect (harg6.unread x5)) (harg7.unread x6) (arg17.view.writes (Elt Ideal) arg17.view.junk (run.sl.HS4_1 (F := Ideal) c i arg4 harg4 x3)) (arg18.view.writes (Elt Ideal) arg18.view.junk (run.sl.HS5_1 (F := Ideal) c i arg5 harg5 x4)) (k0_pay2105, k0_pay2105, k0_pay2105, k0_pay2105) (Scf.trips k0_t5_loop.lb k0_t5_loop.ub k0_t5_loop.st)

/-- Where loop 6 ends. -/
def st6 : Acc × GtPieces :=
  st_k0_t6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 0)) (run.sl.r_2 (F := Ideal) c arg1 harg1 x0) (run.sl.r_3 (F := Ideal) c arg2 harg2 x1) (run.sl.r_6 (F := Ideal) c i arg5 harg5 x4) (run.sl.r_24 (F := Ideal) c arg6 harg6 x5) (run.sl.r_25 (F := Ideal) c i arg1 harg1 arg3 harg3 x0 x2) (harg7.unread x6) (arg17.view.writes (Elt Ideal) arg17.view.junk (run.sl.HS4_1 (F := Ideal) c i arg4 harg4 x3)) (arg18.view.writes (Elt Ideal) arg18.view.junk (run.sl.HS5_1 (F := Ideal) c i arg5 harg5 x4)) (k0_pay2124, k0_pay2124, k0_pay2124, k0_pay2124) (Scf.trips k0_t6_loop.lb k0_t6_loop.ub k0_t6_loop.st)

theorem P1 : LoopPost (batchOf i x0 x1 x2 x3 x4 x5 x6) 0 0 (st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) :=
  post1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (batchOf i x0 x1 x2 x3 x4 x5 x6) _ _ _ _ _ _ _ _ _ (four_zero _ k0_pay2047_zero) (r_2_apply c arg1 harg1 x0) (r_3_apply c arg2 harg2 x1) (r_4_apply c i arg3 harg3 x2) (r_6_apply c i arg5 harg5 x4) (y_read arg7 harg7 x6) (sy_read c i arg4 harg4 x3 arg17.view _) (id_read c i arg5 harg5 x4 arg18.view _) _ _ (x_load arg6 harg6 x5 0 _)

theorem P2 : LoopPost (batchOf i x0 x1 x2 x3 x4 x5 x6) 1 1 (st2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) :=
  post2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (batchOf i x0 x1 x2 x3 x4 x5 x6) _ _ _ _ _ _ _ _ (four_zero _ k0_pay2054_zero) (r_3_apply c arg2 harg2 x1) (r_6_apply c i arg5 harg5 x4) (y_read arg7 harg7 x6) (sy_read c i arg4 harg4 x3 arg17.view _) (id_read c i arg5 harg5 x4 arg18.view _) _ _ (r_20_apply c arg6 harg6 x5) (r_21_apply c i arg1 harg1 arg3 harg3 x0 x2)

theorem P3 : LoopPost (batchOf i x0 x1 x2 x3 x4 x5 x6) 2 0 (st3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) :=
  post3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (batchOf i x0 x1 x2 x3 x4 x5 x6) _ _ _ _ _ _ _ _ _ (four_zero _ k0_pay2070_zero) (r_2_apply c arg1 harg1 x0) (r_3_apply c arg2 harg2 x1) (r_4_apply c i arg3 harg3 x2) (r_6_apply c i arg5 harg5 x4) (y_read arg7 harg7 x6) (sy_read c i arg4 harg4 x3 arg17.view _) (id_read c i arg5 harg5 x4 arg18.view _) _ (x_load arg6 harg6 x5 2 _)

theorem P4 : LoopPost (batchOf i x0 x1 x2 x3 x4 x5 x6) 3 1 (st4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  post4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (batchOf i x0 x1 x2 x3 x4 x5 x6) _ _ _ _ _ _ _ _ _ (four_zero _ k0_pay2089_zero) (r_2_apply c arg1 harg1 x0) (r_3_apply c arg2 harg2 x1) (r_4_apply c i arg3 harg3 x2) (r_6_apply c i arg5 harg5 x4) (y_read arg7 harg7 x6) (sy_read c i arg4 harg4 x3 arg17.view _) (id_read c i arg5 harg5 x4 arg18.view _) _ _ _ (x_load arg6 harg6 x5 3 _)

theorem P5 : LoopPost (batchOf i x0 x1 x2 x3 x4 x5 x6) 4 0 (st5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) :=
  post5 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (batchOf i x0 x1 x2 x3 x4 x5 x6) _ _ _ _ _ _ _ _ _ (four_zero _ k0_pay2105_zero) (r_2_apply c arg1 harg1 x0) (r_3_apply c arg2 harg2 x1) (r_4_apply c i arg3 harg3 x2) (r_6_apply c i arg5 harg5 x4) (y_read arg7 harg7 x6) (sy_read c i arg4 harg4 x3 arg17.view _) (id_read c i arg5 harg5 x4 arg18.view _) _ (x_load arg6 harg6 x5 4 _)

theorem P6 : LoopPost (batchOf i x0 x1 x2 x3 x4 x5 x6) 5 1 (st6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) :=
  post6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (batchOf i x0 x1 x2 x3 x4 x5 x6) _ _ _ _ _ _ _ _ (four_zero _ k0_pay2124_zero) (r_3_apply c arg2 harg2 x1) (r_6_apply c i arg5 harg5 x4) (y_read arg7 harg7 x6) (sy_read c i arg4 harg4 x3 arg17.view _) (id_read c i arg5 harg5 x4 arg18.view _) _ _ (r_24_apply c arg6 harg6 x5) (r_25_apply c i arg1 harg1 arg3 harg3 x0 x2)

end

end Cert.KernelIdeal.Hand

end
-- ==== Proof.Rows.lean ====
/-
The three rows of sums a grid point stores: the loss, the temperature's gradient and the bias's.
-/
module

public import proofs.«01_k».proof.Proof.Sums
import all proofs.«01_k».proof.Proof.Run
import all proofs.«01_k».proof.Proof.Sums

@[expose] public section

set_option maxRecDepth 16384

noncomputable section

namespace Cert.KernelIdeal.Hand

open Idealize.ShloMosaic Idealize.ShloMosaic.TcCoe Cert.KernelIdeal.Gen Cert.Siglip

/-- A store of block `I` of row `b`, of the values `g` has there. -/
structure RowPiece (b : Fin 3) (g : Fin 1536 → EReal) (I : Fin 6) (p : View.Piece (Elt Ideal) S3x1536 .f32) : Prop where
  val : ∀ x : p.1.shape.Idx, p.2 x = g ((p.1.emb x) 1)
  slot : ∀ y ∈ p.1.set, y 0 = b
  cover : ∀ c : Fin 256, (ix2 b (at256 I c) : S3x1536.Idx) ∈ p.1.set

theorem RowPiece.of {b : Fin 3} {g : Fin 1536 → EReal} {I : Fin 6} {off : Fin 2 → ℕ}
    {inb : ∀ a, off a + S1x256.size a ≤ S3x1536.size a} {w : FVec Ideal S1x256 .f32} (hoff : off = ![b.val, 256 * I.val])
    (hw : ∀ c, w (ix2 0 c) = g (at256 I c)) : RowPiece b g I ⟨Rect.unit (s := S3x1536) off S1x256.size inb, w⟩ := by
  subst hoff
  refine ⟨fun x => ?_, fun y hy => ?_, fun c => ?_⟩
  · obtain ⟨a, c, rfl⟩ : ∃ (a : Fin 1) (c : Fin 256), x = (ix2 a c : S1x256.Idx) := ⟨x 0, x 1, by funext i; fin_cases i <;> rfl⟩
    obtain rfl : a = 0 := Subsingleton.elim _ _
    refine (hw c).trans (congrArg g (Fin.ext ?_))
    rw [Rect.emb_apply]
    show 256 * I.val + c.val = 256 * I.val + 1 * c.val
    omega
  · have h := (Rect.mem_set_unit (s := S3x1536) (inb := inb)).mp hy 0
    refine Fin.ext ?_
    have h1 : b.val ≤ (y 0).val := h.1
    have h2 : (y 0).val < b.val + 1 := h.2
    omega
  · refine (Rect.mem_set_unit (s := S3x1536) (inb := inb)).mpr fun a => ?_
    fin_cases a
    · show b.val ≤ b.val ∧ b.val < b.val + 1
      omega
    · show 256 * I.val ≤ 256 * I.val + c.val ∧ 256 * I.val + c.val < 256 * I.val + 256
      omega

/-- Stores that fill row `b` with `g` and leave the other rows alone. -/
structure RowFills (b : Fin 3) (g : Fin 1536 → EReal) (L : List (View.Piece (Elt Ideal) S3x1536 .f32)) : Prop where
  val : ∀ p ∈ L, ∀ x : p.1.shape.Idx, p.2 x = g ((p.1.emb x) 1)
  slot : ∀ p ∈ L, ∀ y ∈ p.1.set, y 0 = b
  cover : ∀ j : Fin 1536, ∃ p ∈ L, (ix2 b j : S3x1536.Idx) ∈ p.1.set

theorem RowFills.of {b : Fin 3} {g : Fin 1536 → EReal} {p0 p1 p2 p3 p4 p5 : View.Piece (Elt Ideal) S3x1536 .f32}
    (h0 : RowPiece b g 0 p0) (h1 : RowPiece b g 1 p1) (h2 : RowPiece b g 2 p2) (h3 : RowPiece b g 3 p3)
    (h4 : RowPiece b g 4 p4) (h5 : RowPiece b g 5 p5) : RowFills b g [p5, p4, p3, p2, p1, p0] := by
  have hall : ∀ p ∈ [p5, p4, p3, p2, p1, p0], ∃ I, RowPiece b g I p := by
    intro p hp
    simp only [List.mem_cons, List.not_mem_nil, or_false] at hp
    rcases hp with rfl | rfl | rfl | rfl | rfl | rfl
    exacts [⟨_, h5⟩, ⟨_, h4⟩, ⟨_, h3⟩, ⟨_, h2⟩, ⟨_, h1⟩, ⟨_, h0⟩]
  refine ⟨fun p hp => (hall p hp).choose_spec.val, fun p hp => (hall p hp).choose_spec.slot, fun j => ?_⟩
  have key : ∀ (I : Fin 6), ∃ p ∈ [p5, p4, p3, p2, p1, p0], RowPiece b g I p := by
    intro I
    fin_cases I
    exacts [⟨p0, by simp, h0⟩, ⟨p1, by simp, h1⟩, ⟨p2, by simp, h2⟩, ⟨p3, by simp, h3⟩, ⟨p4, by simp, h4⟩, ⟨p5, by simp, h5⟩]
  obtain ⟨p, hp, h⟩ := key ⟨j.val / 256, by omega⟩
  refine ⟨p, hp, ?_⟩
  have hj : j = at256 ⟨j.val / 256, by omega⟩ ⟨j.val % 256, Nat.mod_lt _ (by decide)⟩ := Fin.ext (by dsimp; omega)
  have := h.cover ⟨j.val % 256, Nat.mod_lt _ (by decide)⟩
  rw [← hj] at this
  exact this

theorem RowFills.hit {b : Fin 3} {g : Fin 1536 → EReal} {L : List (View.Piece (Elt Ideal) S3x1536 .f32)} (h : RowFills b g L)
    (v : View sig .tc .vmem S3x1536 .f32) (f : v.ty.Contents (Elt Ideal)) (j : Fin 1536) :
    v.read (Elt Ideal) (v.writes (Elt Ideal) f L) (ix2 b j) = g j :=
  View.read_writes_apply_of_pieces (Val := Elt Ideal) v _ (fun y => g (y 1)) L h.val _ (h.cover j)

theorem RowFills.miss {b b' : Fin 3} {g : Fin 1536 → EReal} {L : List (View.Piece (Elt Ideal) S3x1536 .f32)} (h : RowFills b g L)
    (hb : b' ≠ b) (v : View sig .tc .vmem S3x1536 .f32) (f : v.ty.Contents (Elt Ideal)) (j : Fin 1536) :
    v.read (Elt Ideal) (v.writes (Elt Ideal) f L) (ix2 b' j) = v.read (Elt Ideal) f (ix2 b' j) :=
  View.read_writes_apply_of_forall_not_mem v _ _ L fun p hp hy => hb (h.slot p hp _ hy)

theorem k0_pay2048_apply (a b : FVec Ideal S8x256 .f32) (c : Fin 256) :
    (k0_pay2048 a b (ix2 0 c) : EReal) = cln2 * ∑ r : Fin 8, (a (ix2 r c) + b (ix2 r c) : EReal) := by
  pointwise [k0_pay2048]
theorem k0_pay2049_apply (a : FVec Ideal S8x256 .f32) (c : Fin 256) :
    (k0_pay2049 a (ix2 0 c) : EReal) = cln2 * ∑ r : Fin 8, (a (ix2 r c) : EReal) := by
  pointwise [k0_pay2049]
theorem k0_pay2050_apply (a : FVec Ideal S8x256 .f32) (c : Fin 256) :
    (k0_pay2050 a (ix2 0 c) : EReal) = ∑ r : Fin 8, (a (ix2 r c) : EReal) := by
  pointwise [k0_pay2050]
theorem k0_pay2055_apply (a b : FVec Ideal S8x256 .f32) (c : Fin 256) :
    (k0_pay2055 a b (ix2 0 c) : EReal) = cln2 * ∑ r : Fin 8, (a (ix2 r c) + b (ix2 r c) : EReal) := by
  pointwise [k0_pay2055]
theorem k0_pay2056_apply (a : FVec Ideal S8x256 .f32) (c : Fin 256) :
    (k0_pay2056 a (ix2 0 c) : EReal) = cln2 * ∑ r : Fin 8, (a (ix2 r c) : EReal) := by
  pointwise [k0_pay2056]
theorem k0_pay2057_apply (a : FVec Ideal S8x256 .f32) (c : Fin 256) :
    (k0_pay2057 a (ix2 0 c) : EReal) = ∑ r : Fin 8, (a (ix2 r c) : EReal) := by
  pointwise [k0_pay2057]
theorem k0_pay2071_apply (a b : FVec Ideal S8x256 .f32) (c : Fin 256) :
    (k0_pay2071 a b (ix2 0 c) : EReal) = cln2 * ∑ r : Fin 8, (a (ix2 r c) + b (ix2 r c) : EReal) := by
  pointwise [k0_pay2071]
theorem k0_pay2072_apply (a : FVec Ideal S8x256 .f32) (c : Fin 256) :
    (k0_pay2072 a (ix2 0 c) : EReal) = cln2 * ∑ r : Fin 8, (a (ix2 r c) : EReal) := by
  pointwise [k0_pay2072]
theorem k0_pay2073_apply (a : FVec Ideal S8x256 .f32) (c : Fin 256) :
    (k0_pay2073 a (ix2 0 c) : EReal) = ∑ r : Fin 8, (a (ix2 r c) : EReal) := by
  pointwise [k0_pay2073]
theorem k0_pay2090_apply (a b : FVec Ideal S8x256 .f32) (c : Fin 256) :
    (k0_pay2090 a b (ix2 0 c) : EReal) = cln2 * ∑ r : Fin 8, (a (ix2 r c) + b (ix2 r c) : EReal) := by
  pointwise [k0_pay2090]
theorem k0_pay2091_apply (a : FVec Ideal S8x256 .f32) (c : Fin 256) :
    (k0_pay2091 a (ix2 0 c) : EReal) = cln2 * ∑ r : Fin 8, (a (ix2 r c) : EReal) := by
  pointwise [k0_pay2091]
theorem k0_pay2092_apply (a : FVec Ideal S8x256 .f32) (c : Fin 256) :
    (k0_pay2092 a (ix2 0 c) : EReal) = ∑ r : Fin 8, (a (ix2 r c) : EReal) := by
  pointwise [k0_pay2092]
theorem k0_pay2106_apply (a b : FVec Ideal S8x256 .f32) (c : Fin 256) :
    (k0_pay2106 a b (ix2 0 c) : EReal) = cln2 * ∑ r : Fin 8, (a (ix2 r c) + b (ix2 r c) : EReal) := by
  pointwise [k0_pay2106]
theorem k0_pay2107_apply (a : FVec Ideal S8x256 .f32) (c : Fin 256) :
    (k0_pay2107 a (ix2 0 c) : EReal) = cln2 * ∑ r : Fin 8, (a (ix2 r c) : EReal) := by
  pointwise [k0_pay2107]
theorem k0_pay2108_apply (a : FVec Ideal S8x256 .f32) (c : Fin 256) :
    (k0_pay2108 a (ix2 0 c) : EReal) = ∑ r : Fin 8, (a (ix2 r c) : EReal) := by
  pointwise [k0_pay2108]
theorem k0_pay2125_apply (a b : FVec Ideal S8x256 .f32) (c : Fin 256) :
    (k0_pay2125 a b (ix2 0 c) : EReal) = cln2 * ∑ r : Fin 8, (a (ix2 r c) + b (ix2 r c) : EReal) := by
  pointwise [k0_pay2125]
theorem k0_pay2126_apply (a : FVec Ideal S8x256 .f32) (c : Fin 256) :
    (k0_pay2126 a (ix2 0 c) : EReal) = cln2 * ∑ r : Fin 8, (a (ix2 r c) : EReal) := by
  pointwise [k0_pay2126]
theorem k0_pay2127_apply (a : FVec Ideal S8x256 .f32) (c : Fin 256) :
    (k0_pay2127 a (ix2 0 c) : EReal) = ∑ r : Fin 8, (a (ix2 r c) : EReal) := by
  pointwise [k0_pay2127]

section
variable (c : Dev nD) (i : grid0.Coords)
  (arg1 : Memref sig .tc .smem S1x1 .f32) (harg1 : arg1.IsWhole)
  (arg2 : Memref sig .tc .smem S1x1 .f32) (harg2 : arg2.IsWhole)
  (arg3 : Memref sig .tc .vmem S3x1536 .f32) (harg3 : arg3.IsWhole)
  (arg4 : Memref sig .tc .vmem S3x1536 .f32) (harg4 : arg4.IsWhole)
  (arg5 : Memref sig .tc .vmem S3x1536 .i32) (harg5 : arg5.IsWhole)
  (arg6 : Memref sig .tc .vmem S1x1536x1152 .fp8e4m3) (harg6 : arg6.IsWhole)
  (arg7 : Memref sig .tc .vmem S1x1536x1152 .fp8e4m3) (harg7 : arg7.IsWhole)
  (arg8 : Memref sig .tc .vmem S3x1536 .f32) (harg8 : arg8.IsWhole)
  (arg9 : Memref sig .tc .vmem S1x1536x1152 .bf16) (harg9 : arg9.IsWhole)
  (arg10 : Memref sig .tc .vmem S1x1536x1152 .bf16) (harg10 : arg10.IsWhole)
  (arg11 : Memref sig .tc .vmem S3x1536 .f32) (harg11 : arg11.IsWhole)
  (arg12 : Memref sig .tc .vmem S3x1536 .f32) (harg12 : arg12.IsWhole)
  (arg13 : Memref sig .tc .vmem S1152x1536 .bf16) (harg13 : arg13.IsWhole)
  (arg14 : Memref sig .tc .vmem S1152x1536 .bf16) (harg14 : arg14.IsWhole)
  (arg15 : Memref sig .tc .vmem S2x1536x256 .bf16) (harg15 : arg15.IsWhole)
  (arg16 : Memref sig .tc .vmem S1152x1536 .f32) (harg16 : arg16.IsWhole)
  (arg17 : Memref sig .tc .vmem S1536x128 .f32) (harg17 : arg17.IsWhole)
  (arg18 : Memref sig .tc .vmem S1536x128 .i32) (harg18 : arg18.IsWhole)
  (x0 x1 : Vec Ideal S1x1 .f32) (x2 x3 : Vec Ideal S3x1536 .f32) (x4 : Vec Ideal S3x1536 .i32)
  (x5 x6 : Vec Ideal S1x1536x1152 .fp8e4m3) (s2 : Vec Ideal S2x1536x256 .bf16)
  (y7 y10 y11 : Vec Ideal S3x1536 .f32)

theorem loss_fills : RowFills (i 0 : Fin 3) (batchOf i x0 x1 x2 x3 x4 x5 x6).loss (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 y7 y10 y11 s2).1 :=
  RowFills.of
    (.of (Gen.k0_off5_eq i) fun a => (k0_pay2048_apply _ _ a).trans ((P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).loss a))
    (.of (Gen.k0_off9_eq i) fun a => (k0_pay2055_apply _ _ a).trans ((P2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).loss a))
    (.of (Gen.k0_off13_eq i) fun a => (k0_pay2071_apply _ _ a).trans ((P3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).loss a))
    (.of (Gen.k0_off17_eq i) fun a => (k0_pay2090_apply _ _ a).trans ((P4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).loss a))
    (.of (Gen.k0_off21_eq i) fun a => (k0_pay2106_apply _ _ a).trans ((P5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).loss a))
    (.of (Gen.k0_off25_eq i) fun a => (k0_pay2125_apply _ _ a).trans ((P6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).loss a))

theorem dt_fills : RowFills (i 0 : Fin 3) (batchOf i x0 x1 x2 x3 x4 x5 x6).dt (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 y7 y10 y11 s2).2.2.2.1 :=
  RowFills.of
    (.of (Gen.k0_off5_eq i) fun a => (k0_pay2049_apply _ a).trans ((P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).dtRow a))
    (.of (Gen.k0_off9_eq i) fun a => (k0_pay2056_apply _ a).trans ((P2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).dtRow a))
    (.of (Gen.k0_off13_eq i) fun a => (k0_pay2072_apply _ a).trans ((P3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).dtRow a))
    (.of (Gen.k0_off17_eq i) fun a => (k0_pay2091_apply _ a).trans ((P4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).dtRow a))
    (.of (Gen.k0_off21_eq i) fun a => (k0_pay2107_apply _ a).trans ((P5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).dtRow a))
    (.of (Gen.k0_off25_eq i) fun a => (k0_pay2126_apply _ a).trans ((P6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).dtRow a))

theorem db_fills : RowFills (i 0 : Fin 3) (batchOf i x0 x1 x2 x3 x4 x5 x6).db (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 y7 y10 y11 s2).2.2.2.2.1 :=
  RowFills.of
    (.of (Gen.k0_off5_eq i) fun a => (k0_pay2050_apply _ a).trans ((P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).dbRow a))
    (.of (Gen.k0_off9_eq i) fun a => (k0_pay2057_apply _ a).trans ((P2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).dbRow a))
    (.of (Gen.k0_off13_eq i) fun a => (k0_pay2073_apply _ a).trans ((P3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).dbRow a))
    (.of (Gen.k0_off17_eq i) fun a => (k0_pay2092_apply _ a).trans ((P4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).dbRow a))
    (.of (Gen.k0_off21_eq i) fun a => (k0_pay2108_apply _ a).trans ((P5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).dbRow a))
    (.of (Gen.k0_off25_eq i) fun a => (k0_pay2127_apply _ a).trans ((P6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).dbRow a))

end

end Cert.KernelIdeal.Hand

end
-- ==== Proof.Blocks.lean ====
/-
The gradients' blocks: what one block of each product is worth, and what the stores of all of them leave.
-/
module

public import proofs.«01_k».proof.Proof.Posts

@[expose] public section

set_option maxRecDepth 16384

noncomputable section

namespace Cert.KernelIdeal.Hand

open Idealize.ShloMosaic Idealize.ShloMosaic.TcCoe Cert.KernelIdeal.Gen Cert.Siglip

abbrev at384 (q : Fin 3) (d : Fin 384) : Fin 1152 := ⟨384 * q.val + d.val, by omega⟩

/-! ## Blocks of the two products -/

/-- A block of the images' gradient. -/
def dxPay (y : FVec Ideal S384x1536 .bf16) (g : FVec Ideal S1x1536x256 .bf16) (t : FVec Ideal S1x1 .f32) : FVec Ideal S1x256x384 .bf16 :=
  shapeCast S1x256x384 (transpose S256x384 [1, 0] (truncf .bf16 (mulf (matmul dot_S384x1536_S1536x256_S384x256_1_0_0_1_n_n none y
    (shapeCast S1536x256 g Gen.facts.shapeCasts_S1x1536x256_S1536x256) (constant S384x256 .f32 0x00000000#32))
    (broadcastTo S384x256 t Gen.facts.broadcasts_S1x1_S384x256)) Gen.facts.bitsLt_bf16_f32) Gen.facts.transposes_S384x256_p1_0_S256x384)
    Gen.facts.shapeCasts_S256x384_S1x256x384

theorem dxPay_apply (y : FVec Ideal S384x1536 .bf16) (g : FVec Ideal S1x1536x256 .bf16) (t : FVec Ideal S1x1 .f32)
    (c : Fin 256) (d : Fin 384) :
    (dxPay y g t (ix3 0 c d) : EReal) = (∑ j : Fin 1536, (y (ix2 d j) : EReal) * g (ix3 0 j c)) * t (ix2 0 0) := by
  pointwise [dxPay]

/-- One row block's share of a block of the texts' gradient. -/
def accTerm (x : FVec Ideal S1152x256 .bf16) (g : FVec Ideal S1x256x256 .bf16) : FVec Ideal S1152x256 .f32 :=
  matmul dot_S1152x256_S256x256_S1152x256_1_1_0_0_n_n none x (shapeCast S256x256 g Gen.facts.shapeCasts_S1x256x256_S256x256)
    (constant S1152x256 .f32 0x00000000#32)

/-- The first share, as it is stored, -/
def accInit (x : FVec Ideal S1152x256 .bf16) (g : FVec Ideal S1x256x256 .bf16) : FVec Ideal S1152x256 .f32 :=
  shapeCast S1152x256 (accTerm x g) Gen.facts.shapeCasts_S1152x256_S1152x256
/-- a later one, on top of what is there, -/
def accPay (x : FVec Ideal S1152x256 .bf16) (g : FVec Ideal S1x256x256 .bf16) (a : FVec Ideal S1152x256 .f32) : FVec Ideal S1152x256 .f32 :=
  shapeCast S1152x256 (addf (accTerm x g) a) Gen.facts.shapeCasts_S1152x256_S1152x256
/-- and the last, scaled and turned over into the result. -/
def dyPay (x : FVec Ideal S1152x256 .bf16) (g : FVec Ideal S1x256x256 .bf16) (a : FVec Ideal S1152x256 .f32) (t : FVec Ideal S1x1 .f32) :
    FVec Ideal S1x256x1152 .bf16 :=
  shapeCast S1x256x1152 (transpose S256x1152 [1, 0] (truncf .bf16 (mulf (addf (accTerm x g) a)
    (broadcastTo S1152x256 t Gen.facts.broadcasts_S1x1_S1152x256)) Gen.facts.bitsLt_bf16_f32) Gen.facts.transposes_S1152x256_p1_0_S256x1152)
    Gen.facts.shapeCasts_S256x1152_S1x256x1152

theorem accInit_apply (x : FVec Ideal S1152x256 .bf16) (g : FVec Ideal S1x256x256 .bf16) (d : Fin 1152) (r : Fin 256) :
    (accInit x g (ix2 d r) : EReal) = ∑ c : Fin 256, (x (ix2 d c) : EReal) * g (ix3 0 r c) := by
  pointwise [accInit, accTerm]
theorem accPay_apply (x : FVec Ideal S1152x256 .bf16) (g : FVec Ideal S1x256x256 .bf16) (a : FVec Ideal S1152x256 .f32)
    (d : Fin 1152) (r : Fin 256) :
    (accPay x g a (ix2 d r) : EReal) = (∑ c : Fin 256, (x (ix2 d c) : EReal) * g (ix3 0 r c)) + a (ix2 d r) := by
  pointwise [accPay, accTerm]
theorem dyPay_apply (x : FVec Ideal S1152x256 .bf16) (g : FVec Ideal S1x256x256 .bf16) (a : FVec Ideal S1152x256 .f32)
    (t : FVec Ideal S1x1 .f32) (d : Fin 1152) (r : Fin 256) :
    (dyPay x g a t (ix3 0 r d) : EReal) = ((∑ c : Fin 256, (x (ix2 d c) : EReal) * g (ix3 0 r c)) + a (ix2 d r)) * t (ix2 0 0) := by
  pointwise [dyPay, accTerm]

/-! ## The accumulator -/

/-- Row block `k`'s share of the texts' gradient. -/
def term (D : Batch) (k : Fin 6) (d : Fin 1152) (j : Fin 1536) : EReal :=
  ∑ c : Fin 256, D.X (at256 k c) d * D.SX (at256 k c) * D.gt (at256 k c) j
/-- The shares up to block `n`. -/
def part (D : Batch) (n : ℕ) (d : Fin 1152) (j : Fin 1536) : EReal :=
  ∑ k : Fin 6, if k.val ≤ n then term D k d j else 0

theorem part_zero (D : Batch) (d : Fin 1152) (j : Fin 1536) : part D 0 d j = term D 0 d j := by
  simp [part, Fin.sum_univ_six]
theorem part_succ (D : Batch) (k : Fin 5) (d : Fin 1152) (j : Fin 1536) :
    term D k.succ d j + part D k.val d j = part D (k.val + 1) d j := by
  unfold part
  fin_cases k <;> simp [Fin.sum_univ_six] <;> ac_rfl
theorem part_all (D : Batch) (d : Fin 1152) (j : Fin 1536) : part D 5 d j * D.T = D.dy j d := by
  unfold Batch.dy
  rw [mul_comm, ← sum_at256]
  refine congrArg (D.T * ·) (Finset.sum_congr rfl fun k _ => ?_)
  rw [if_pos (by omega)]
  exact Finset.sum_congr rfl fun c _ => mul_comm _ _

/-- How far column block `jt` has come after `n` stores. -/
def lvl (n : ℕ) (jt : Fin 6) : ℕ := (n + 5 - jt.val) / 6 - 1

abbrev AccPieces := List (View.Piece (Elt Ideal) S1152x1536 .f32)

/-- What the accumulator holds after the stores `L`. -/
def AccIs (D : Batch) (v : View sig .tc .vmem S1152x1536 .f32) (A : Fin 6 → ℕ) (L : AccPieces) : Prop :=
  ∀ (d : Fin 1152) (jt : Fin 6) (r : Fin 256),
    v.read (Elt Ideal) (v.writes (Elt Ideal) v.junk L) (ix2 d (at256 jt r)) = part D (A jt) d (at256 jt r)

theorem AccIs.load {D : Batch} {v : View sig .tc .vmem S1152x1536 .f32} {A : Fin 6 → ℕ} {L : AccPieces} (h : AccIs D v A L)
    {off : Fin 2 → ℕ} {inb : ∀ a, off a + S1152x256.size a ≤ S1152x1536.size a} (jt : Fin 6) (hoff : off = ![0, 256 * jt.val])
    (d : Fin 1152) (r : Fin 256) :
    v.readCov L (Rect.unit (s := S1152x1536) off S1152x256.size inb).toLoadRect (ix2 d r) = part D (A jt) d (at256 jt r) := by
  subst hoff
  refine (readAt_at v _ _ _ _ _ (ix2 d (at256 jt r)) fun b => ?_).trans (h d jt r)
  fin_cases b
  · exact (Nat.zero_add _).symm
  · rfl

theorem accHit (v : View sig .tc .vmem S1152x1536 .f32) (f : v.ty.Contents (Elt Ideal)) (L : AccPieces) (jt : Fin 6)
    (inb : ∀ a, (![0, 256 * jt.val] : Fin 2 → ℕ) a + S1152x256.size a ≤ S1152x1536.size a) (w : FVec Ideal S1152x256 .f32)
    (d : Fin 1152) (r : Fin 256) :
    v.read (Elt Ideal) (v.writes (Elt Ideal) f (⟨Rect.unit (s := S1152x1536) ![0, 256 * jt.val] S1152x256.size inb, w⟩ :: L)) (ix2 d (at256 jt r))
      = w (ix2 d r) :=
  View.read_writes_cons_hit_of_coords v f (Rect.unit (s := S1152x1536) ![0, 256 * jt.val] S1152x256.size inb) w L (ix2 d r) _ fun b => by
    fin_cases b
    · show d.val = 0 + 1 * d.val
      omega
    · show 256 * jt.val + r.val = 256 * jt.val + 1 * r.val
      omega

theorem accMiss (v : View sig .tc .vmem S1152x1536 .f32) (f : v.ty.Contents (Elt Ideal)) (L : AccPieces) (jt jt' : Fin 6) (hj : jt' ≠ jt)
    (inb : ∀ a, (![0, 256 * jt.val] : Fin 2 → ℕ) a + S1152x256.size a ≤ S1152x1536.size a) (w : FVec Ideal S1152x256 .f32)
    (d : Fin 1152) (r : Fin 256) :
    v.read (Elt Ideal) (v.writes (Elt Ideal) f (⟨Rect.unit (s := S1152x1536) ![0, 256 * jt.val] S1152x256.size inb, w⟩ :: L)) (ix2 d (at256 jt' r))
      = v.read (Elt Ideal) (v.writes (Elt Ideal) f L) (ix2 d (at256 jt' r)) := by
  refine View.read_writes_apply_of_forall_not_mem v (v.writes (Elt Ideal) f L) _ [_] fun p hp hy => hj ?_
  obtain rfl := List.mem_singleton.mp hp
  have h := (Rect.mem_set_unit (s := S1152x1536) (inb := inb)).mp hy 1
  have h1 : 256 * jt.val ≤ 256 * jt'.val + r.val := h.1
  have h2 : 256 * jt'.val + r.val < 256 * jt.val + 256 := h.2
  exact Fin.ext (by omega)

/-- One more share added. -/
theorem AccIs.step {D : Batch} {v : View sig .tc .vmem S1152x1536 .f32} {L : AccPieces} (n : ℕ) (k : Fin 5) (jt : Fin 6)
    (hn : n = 6 * (k.val + 1) + jt.val) (h : AccIs D v (lvl n) L)
    {off : Fin 2 → ℕ} {inb inb' : ∀ a, off a + S1152x256.size a ≤ S1152x1536.size a} (hoff : off = ![0, 256 * jt.val])
    {x : FVec Ideal S1152x256 .bf16} {g : FVec Ideal S1x256x256 .bf16}
    (hx : ∀ d c, x (ix2 d c) = D.X (at256 k.succ c) d * D.SX (at256 k.succ c))
    (hg : ∀ r c, g (ix3 0 r c) = D.gt (at256 k.succ c) (at256 jt r)) :
    AccIs D v (lvl (n + 1)) (⟨Rect.unit (s := S1152x1536) off S1152x256.size inb,
      accPay x g (v.readCov L (Rect.unit (s := S1152x1536) off S1152x256.size inb').toLoadRect)⟩ :: L) := by
  intro d jt' r
  by_cases hj : jt' = jt
  · subst hj
    have e1 : lvl n jt' = k.val := by unfold lvl; omega
    have e2 : lvl (n + 1) jt' = k.val + 1 := by unfold lvl; omega
    have hl := h.load (inb := inb') jt' hoff d r
    subst hoff
    rw [accHit, accPay_apply, hl, e1, e2, ← part_succ]
    refine congrArg (· + part D k.val d (at256 jt' r)) (Finset.sum_congr rfl fun c _ => ?_)
    rw [hx, hg]
  · subst hoff
    rw [accMiss _ _ _ jt jt' hj, h d jt' r]
    have : lvl (n + 1) jt' = lvl n jt' := by
      have : jt'.val ≠ jt.val := fun e => hj (Fin.ext e)
      unfold lvl; omega
    rw [this]

/-- The first shares. -/
theorem AccIs.init {D : Batch} {v : View sig .tc .vmem S1152x1536 .f32}
    {x : Fin 6 → FVec Ideal S1152x256 .bf16} {g : Fin 6 → FVec Ideal S1x256x256 .bf16}
    (inb : ∀ (jt : Fin 6) a, (![0, 256 * jt.val] : Fin 2 → ℕ) a + S1152x256.size a ≤ S1152x1536.size a)
    (hx : ∀ jt d c, x jt (ix2 d c) = D.X (at256 0 c) d * D.SX (at256 0 c))
    (hg : ∀ jt r c, g jt (ix3 0 r c) = D.gt (at256 0 c) (at256 jt r)) :
    AccIs D v (lvl 6) (([5, 4, 3, 2, 1, 0] : List (Fin 6)).map fun jt =>
      ⟨Rect.unit (s := S1152x1536) ![0, 256 * jt.val] S1152x256.size (inb jt), accInit (x jt) (g jt)⟩) := by
  have key : ∀ (l : List (Fin 6)) (jt : Fin 6) (_ : jt ∈ l) (d : Fin 1152) (r : Fin 256),
      v.read (Elt Ideal) (v.writes (Elt Ideal) v.junk (l.map fun jt =>
        ⟨Rect.unit (s := S1152x1536) ![0, 256 * jt.val] S1152x256.size (inb jt), accInit (x jt) (g jt)⟩)) (ix2 d (at256 jt r))
        = term D 0 d (at256 jt r) := by
    intro l
    induction l with
    | nil => intro jt h; exact absurd h List.not_mem_nil
    | cons a l ih =>
      intro jt h d r
      rw [List.map_cons]
      by_cases hj : jt = a
      · subst hj
        rw [accHit, accInit_apply]
        refine Finset.sum_congr rfl fun c _ => ?_
        rw [hx, hg]
      · rw [accMiss _ _ _ a jt hj]
        exact ih jt ((List.mem_cons.mp h).resolve_left hj) d r
  intro d jt r
  have e : lvl 6 jt = 0 := by unfold lvl; omega
  rw [e, part_zero]
  exact key _ jt (by revert jt; decide) d r

/-! ## Blocks of a result -/

/-- A store of a block of a result, of the values `G` has there. -/
structure OutPiece (W : ℕ) (G : Fin 1536 → Fin 1152 → EReal) (k : ℕ) (q : ℕ) (p : View.Piece (Elt Ideal) S1x1536x1152 .bf16) : Prop where
  val : ∀ x : p.1.shape.Idx, p.2 x = G ((p.1.emb x) 1) ((p.1.emb x) 2)
  cover : ∀ (j : Fin 1536) (d : Fin 1152), j.val / 256 = k → d.val / W = q → (ix3 0 j d : S1x1536x1152.Idx) ∈ p.1.set

theorem outPiece384 {G : Fin 1536 → Fin 1152 → EReal} (k : Fin 6) (q : Fin 3) {off : Fin 3 → ℕ}
    {inb : ∀ a, off a + S1x256x384.size a ≤ S1x1536x1152.size a} {w : FVec Ideal S1x256x384 .bf16}
    (hoff : off = ![0, 256 * k.val, 384 * q.val]) (hw : ∀ c d, w (ix3 0 c d) = G (at256 k c) (at384 q d)) :
    OutPiece 384 G k.val q.val ⟨Rect.unit (s := S1x1536x1152) off S1x256x384.size inb, w⟩ := by
  subst hoff
  refine ⟨fun x => ?_, fun j d hj hd => ?_⟩
  · obtain ⟨a, c, d, rfl⟩ : ∃ (a : Fin 1) (c : Fin 256) (d : Fin 384), x = (ix3 a c d : S1x256x384.Idx) :=
      ⟨x 0, x 1, x 2, by funext i; fin_cases i <;> rfl⟩
    obtain rfl : a = 0 := Subsingleton.elim _ _
    refine (hw c d).trans (congrArg₂ G (Fin.ext ?_) (Fin.ext ?_)) <;> rw [Rect.emb_apply]
    · show 256 * k.val + c.val = 256 * k.val + 1 * c.val
      omega
    · show 384 * q.val + d.val = 384 * q.val + 1 * d.val
      omega
  · refine (Rect.mem_set_unit (s := S1x1536x1152) (inb := inb)).mpr fun a => ?_
    fin_cases a
    · show 0 ≤ 0 ∧ 0 < 0 + 1
      omega
    · show 256 * k.val ≤ j.val ∧ j.val < 256 * k.val + 256
      omega
    · show 384 * q.val ≤ d.val ∧ d.val < 384 * q.val + 384
      omega

theorem outPiece1152 {G : Fin 1536 → Fin 1152 → EReal} (k : Fin 6) {off : Fin 3 → ℕ}
    {inb : ∀ a, off a + S1x256x1152.size a ≤ S1x1536x1152.size a} {w : FVec Ideal S1x256x1152 .bf16}
    (hoff : off = ![0, 256 * k.val, 0]) (hw : ∀ c d, w (ix3 0 c d) = G (at256 k c) d) :
    OutPiece 1152 G k.val 0 ⟨Rect.unit (s := S1x1536x1152) off S1x256x1152.size inb, w⟩ := by
  subst hoff
  refine ⟨fun x => ?_, fun j d hj hd => ?_⟩
  · obtain ⟨a, c, d, rfl⟩ : ∃ (a : Fin 1) (c : Fin 256) (d : Fin 1152), x = (ix3 a c d : S1x256x1152.Idx) :=
      ⟨x 0, x 1, x 2, by funext i; fin_cases i <;> rfl⟩
    obtain rfl : a = 0 := Subsingleton.elim _ _
    refine (hw c d).trans (congrArg₂ G (Fin.ext ?_) (Fin.ext ?_)) <;> rw [Rect.emb_apply]
    · show 256 * k.val + c.val = 256 * k.val + 1 * c.val
      omega
    · show d.val = 0 + 1 * d.val
      omega
  · refine (Rect.mem_set_unit (s := S1x1536x1152) (inb := inb)).mpr fun a => ?_
    fin_cases a
    · show 0 ≤ 0 ∧ 0 < 0 + 1
      omega
    · show 256 * k.val ≤ j.val ∧ j.val < 256 * k.val + 256
      omega
    · show 0 ≤ d.val ∧ d.val < 0 + 1152
      omega

/-- Stores that fill a result. -/
theorem out_read {W : ℕ} {G : Fin 1536 → Fin 1152 → EReal} {S : List (ℕ × ℕ)} {L : List (View.Piece (Elt Ideal) S1x1536x1152 .bf16)}
    (h : List.Forall₂ (fun (kq : ℕ × ℕ) p => OutPiece W G kq.1 kq.2 p) S L) (hS : ∀ (j : Fin 1536) (d : Fin 1152), (j.val / 256, d.val / W) ∈ S)
    (v : View sig .tc .vmem S1x1536x1152 .bf16) (f : v.ty.Contents (Elt Ideal)) (j : Fin 1536) (d : Fin 1152) :
    v.read (Elt Ideal) (v.writes (Elt Ideal) f L) (ix3 0 j d) = G j d := by
  have hval : ∀ {S : List (ℕ × ℕ)} {L : List (View.Piece (Elt Ideal) S1x1536x1152 .bf16)}, List.Forall₂ (fun (kq : ℕ × ℕ) p => OutPiece W G kq.1 kq.2 p) S L → ∀ p ∈ L, ∃ kq : ℕ × ℕ, OutPiece W G kq.1 kq.2 p := by
    intro S L h
    induction h with
    | nil => intro p hp; exact absurd hp List.not_mem_nil
    | cons hab _ ih =>
      intro p hp
      rcases List.mem_cons.mp hp with rfl | hp
      · exact ⟨_, hab⟩
      · exact ih p hp
  have hcov : ∀ {S : List (ℕ × ℕ)} {L : List (View.Piece (Elt Ideal) S1x1536x1152 .bf16)}, List.Forall₂ (fun (kq : ℕ × ℕ) p => OutPiece W G kq.1 kq.2 p) S L → ∀ kq ∈ S, ∃ p ∈ L, OutPiece W G kq.1 kq.2 p := by
    intro S L h
    induction h with
    | nil => intro p hp; exact absurd hp List.not_mem_nil
    | cons hab _ ih =>
      intro p hp
      rcases List.mem_cons.mp hp with rfl | hp
      · exact ⟨_, List.mem_cons_self, hab⟩
      · obtain ⟨q, hq, h⟩ := ih p hp
        exact ⟨q, List.mem_cons_of_mem _ hq, h⟩
  refine View.read_writes_apply_of_pieces (Val := Elt Ideal) v f (fun y => G (y 1) (y 2)) L (fun p hp => ?_) (ix3 0 j d) ?_
  · obtain ⟨kq, hp⟩ := hval h p hp
    exact hp.val
  · obtain ⟨p, hp, hc⟩ := hcov h _ (hS j d)
    exact ⟨p, hp, hc.cover j d rfl rfl⟩

/-! ## Loads of gates and of scaled codes -/

theorem gate_load {D : Batch} {v : View sig .tc .vmem S2x1536x256 .bf16} {X : v.ty.Contents (Elt Ideal)} {s : Fin 2} {k : Fin 6}
    (hG : ∀ j c, v.read (Elt Ideal) X (ix3 s j c) = D.gt (at256 k c) j) (jt : Fin 6)
    (inb : ∀ a, (![s.val, 256 * jt.val, 0] : Fin 3 → ℕ) a + S1x256x256.size a ≤ S2x1536x256.size a) (r c : Fin 256) :
    View.readAt (Elt Ideal) v (Rect.unit (s := S2x1536x256) ![s.val, 256 * jt.val, 0] S1x256x256.size inb).toLoadRect X (ix3 0 r c)
      = D.gt (at256 k c) (at256 jt r) :=
  (readAt_at v _ _ _ _ _ (ix3 s (at256 jt r) c) fun b => by
    fin_cases b
    · rfl
    · rfl
    · exact (Nat.zero_add _).symm).trans (hG _ _)

theorem gate_load_all {D : Batch} {v : View sig .tc .vmem S2x1536x256 .bf16} {X : v.ty.Contents (Elt Ideal)} {s : Fin 2} {k : Fin 6}
    (hG : ∀ j c, v.read (Elt Ideal) X (ix3 s j c) = D.gt (at256 k c) j)
    (inb : ∀ a, (![s.val, 0, 0] : Fin 3 → ℕ) a + S1x1536x256.size a ≤ S2x1536x256.size a) (j : Fin 1536) (c : Fin 256) :
    View.readAt (Elt Ideal) v (Rect.unit (s := S2x1536x256) ![s.val, 0, 0] S1x1536x256.size inb).toLoadRect X (ix3 0 j c)
      = D.gt (at256 k c) j :=
  (readAt_at v _ _ _ _ _ (ix3 s j c) fun b => by
    fin_cases b
    · rfl
    · exact (Nat.zero_add _).symm
    · exact (Nat.zero_add _).symm).trans (hG _ _)

/-- A block of the images' gradient, given what its operands hold. -/
theorem dx_val {D : Batch} (k : Fin 6) (q : Fin 3) {y : FVec Ideal S384x1536 .bf16} {g : FVec Ideal S1x1536x256 .bf16} {t : FVec Ideal S1x1 .f32}
    (hy : ∀ d j, y (ix2 d j) = D.Y j (at384 q d) * D.SY j) (hg : ∀ j c, g (ix3 0 j c) = D.gt (at256 k c) j) (ht : t (ix2 0 0) = D.T)
    (c : Fin 256) (d : Fin 384) : dxPay y g t (ix3 0 c d) = D.dx (at256 k c) (at384 q d) := by
  rw [dxPay_apply, ht, mul_comm]
  refine congrArg (D.T * ·) (Finset.sum_congr rfl fun j _ => ?_)
  rw [hy, hg, mul_comm]

/-- A block of the texts' gradient, given what its operands hold. -/
theorem dy_val {D : Batch} (jt : Fin 6) {x : FVec Ideal S1152x256 .bf16} {g : FVec Ideal S1x256x256 .bf16} {a : FVec Ideal S1152x256 .f32}
    {t : FVec Ideal S1x1 .f32} (hx : ∀ d c, x (ix2 d c) = D.X (at256 5 c) d * D.SX (at256 5 c))
    (hg : ∀ r c, g (ix3 0 r c) = D.gt (at256 5 c) (at256 jt r)) (ha : ∀ d r, a (ix2 d r) = part D 4 d (at256 jt r))
    (ht : t (ix2 0 0) = D.T) (r : Fin 256) (d : Fin 1152) : dyPay x g a t (ix3 0 r d) = D.dy (at256 jt r) d := by
  rw [dyPay_apply, ht, ha, ← part_all, show part D 5 d (at256 jt r) = _ from (part_succ D 4 d (at256 jt r)).symm]
  refine congrArg (fun z => (z + part D 4 d (at256 jt r)) * D.T) (Finset.sum_congr rfl fun c _ => ?_)
  rw [hx, hg]
  rfl

end Cert.KernelIdeal.Hand

end
-- ==== Proof.Grads.lean ====
/-
The two gradients a grid point stores.
-/
module

public import proofs.«01_k».proof.Proof.Sums
public import proofs.«01_k».proof.Proof.Blocks
import all proofs.«01_k».proof.Proof.Run
import all proofs.«01_k».proof.Proof.Sums

@[expose] public section

set_option maxRecDepth 16384

noncomputable section

namespace Cert.KernelIdeal.Hand

open Idealize.ShloMosaic Idealize.ShloMosaic.TcCoe Cert.KernelIdeal.Gen Cert.Siglip

section
variable (c : Dev nD) (i : grid0.Coords)
  (arg1 : Memref sig .tc .smem S1x1 .f32) (harg1 : arg1.IsWhole)
  (arg2 : Memref sig .tc .smem S1x1 .f32) (harg2 : arg2.IsWhole)
  (arg3 : Memref sig .tc .vmem S3x1536 .f32) (harg3 : arg3.IsWhole)
  (arg4 : Memref sig .tc .vmem S3x1536 .f32) (harg4 : arg4.IsWhole)
  (arg5 : Memref sig .tc .vmem S3x1536 .i32) (harg5 : arg5.IsWhole)
  (arg6 : Memref sig .tc .vmem S1x1536x1152 .fp8e4m3) (harg6 : arg6.IsWhole)
  (arg7 : Memref sig .tc .vmem S1x1536x1152 .fp8e4m3) (harg7 : arg7.IsWhole)
  (arg8 : Memref sig .tc .vmem S3x1536 .f32) (harg8 : arg8.IsWhole)
  (arg9 : Memref sig .tc .vmem S1x1536x1152 .bf16) (harg9 : arg9.IsWhole)
  (arg10 : Memref sig .tc .vmem S1x1536x1152 .bf16) (harg10 : arg10.IsWhole)
  (arg11 : Memref sig .tc .vmem S3x1536 .f32) (harg11 : arg11.IsWhole)
  (arg12 : Memref sig .tc .vmem S3x1536 .f32) (harg12 : arg12.IsWhole)
  (arg13 : Memref sig .tc .vmem S1152x1536 .bf16) (harg13 : arg13.IsWhole)
  (arg14 : Memref sig .tc .vmem S1152x1536 .bf16) (harg14 : arg14.IsWhole)
  (arg15 : Memref sig .tc .vmem S2x1536x256 .bf16) (harg15 : arg15.IsWhole)
  (arg16 : Memref sig .tc .vmem S1152x1536 .f32) (harg16 : arg16.IsWhole)
  (arg17 : Memref sig .tc .vmem S1536x128 .f32) (harg17 : arg17.IsWhole)
  (arg18 : Memref sig .tc .vmem S1536x128 .i32) (harg18 : arg18.IsWhole)
  (x0 x1 : Vec Ideal S1x1 .f32) (x2 x3 : Vec Ideal S3x1536 .f32) (x4 : Vec Ideal S3x1536 .i32)
  (x5 x6 : Vec Ideal S1x1536x1152 .fp8e4m3) (s2 : Vec Ideal S2x1536x256 .bf16)

/-! ## What the operands of the products hold -/

include x0 x1 x4 in
theorem x_part (k : Fin 6) {off : Fin 2 → ℕ} {inb : ∀ a, off a + S1152x256.size a ≤ S1152x1536.size a} (hoff : off = ![0, 256 * k.val])
    (e : Fin 1152) (a : Fin 256) :
    arg13.view.readCov (run.sl.HS0_54 (F := Ideal) c i arg3 harg3 arg6 harg6 x2 x5) (Rect.unit (s := S1152x1536) off S1152x256.size inb).toLoadRect (ix2 e a)
      = (batchOf i x0 x1 x2 x3 x4 x5 x6).X (at256 k a) e * (batchOf i x0 x1 x2 x3 x4 x5 x6).SX (at256 k a) := by
  subst hoff
  refine (readAt_at arg13.view _ _ _ _ _ (ix2 e (at256 k a)) fun b => ?_).trans ?_
  · fin_cases b
    · exact (Nat.zero_add _).symm
    · rfl
  · rw [HS0_54_eq, codes_read, r_4_apply]
    exact congrArg (fun z : EReal => z * x2 (ix2 (i 0 : Fin 3) (at256 k a))) (congrFun (harg6.read_unread _) _)

include x0 x1 x4 in
theorem y_part (q : Fin 3) {off : Fin 2 → ℕ} {inb : ∀ a, off a + S384x1536.size a ≤ S1152x1536.size a} (hoff : off = ![384 * q.val, 0])
    (e : Fin 384) (j : Fin 1536) :
    arg14.view.readCov (run.sl.HS1_54 (F := Ideal) c i arg4 harg4 arg7 harg7 x3 x6) (Rect.unit (s := S1152x1536) off S384x1536.size inb).toLoadRect (ix2 e j)
      = (batchOf i x0 x1 x2 x3 x4 x5 x6).Y j (at384 q e) * (batchOf i x0 x1 x2 x3 x4 x5 x6).SY j := by
  subst hoff
  refine (readAt_at arg14.view _ _ _ _ _ (ix2 (at384 q e) j) fun b => ?_).trans ?_
  · fin_cases b
    · rfl
    · exact (Nat.zero_add _).symm
  · rw [HS1_54_eq, codes_read, r_5_apply]
    exact congrArg (fun z : EReal => z * x3 (ix2 (i 0 : Fin 3) j)) (congrFun (harg7.read_unread _) _)

/-! The gates, when the products of row block `k` are formed. -/

theorem gates0 (j : Fin 1536) (a : Fin 256) : arg15.view.read (Elt Ideal) (arg15.view.writes (Elt Ideal) (harg15.unread s2)
    ((st2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ (st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2)) (ix3 0 j a) = (batchOf i x0 x1 x2 x3 x4 x5 x6).gt (at256 0 a) j :=
  ((P2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).fills.miss (by decide) _ _ _ j a).trans ((P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).fills.hit' _ _ j a)

theorem gates1 (j : Fin 1536) (a : Fin 256) : arg15.view.read (Elt Ideal) (arg15.view.writes (Elt Ideal) (harg15.unread s2)
    ((st3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ ((st2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ (st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2))) (ix3 1 j a) = (batchOf i x0 x1 x2 x3 x4 x5 x6).gt (at256 1 a) j :=
  ((P3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).fills.miss (by decide) _ _ _ j a).trans ((P2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).fills.hit _ _ _ j a)

theorem gates2 (j : Fin 1536) (a : Fin 256) : arg15.view.read (Elt Ideal) (arg15.view.writes (Elt Ideal) (harg15.unread s2)
    ((st4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).2 ++ ((st3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ ((st2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ (st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2)))) (ix3 0 j a) = (batchOf i x0 x1 x2 x3 x4 x5 x6).gt (at256 2 a) j :=
  ((P4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).fills.miss (by decide) _ _ _ j a).trans ((P3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).fills.hit _ _ _ j a)

theorem gates3 (j : Fin 1536) (a : Fin 256) : arg15.view.read (Elt Ideal) (arg15.view.writes (Elt Ideal) (harg15.unread s2)
    ((st5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ ((st4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).2 ++ ((st3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ ((st2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ (st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2))))) (ix3 1 j a) = (batchOf i x0 x1 x2 x3 x4 x5 x6).gt (at256 3 a) j :=
  ((P5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).fills.miss (by decide) _ _ _ j a).trans ((P4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).fills.hit _ _ _ j a)

theorem gates4 (j : Fin 1536) (a : Fin 256) : arg15.view.read (Elt Ideal) (arg15.view.writes (Elt Ideal) (harg15.unread s2)
    ((st6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ ((st5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ ((st4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).2 ++ ((st3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ ((st2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ (st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2)))))) (ix3 0 j a) = (batchOf i x0 x1 x2 x3 x4 x5 x6).gt (at256 4 a) j :=
  ((P6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).fills.miss (by decide) _ _ _ j a).trans ((P5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).fills.hit _ _ _ j a)

theorem gates5 (j : Fin 1536) (a : Fin 256) : arg15.view.read (Elt Ideal) (arg15.view.writes (Elt Ideal) (harg15.unread s2)
    ((st6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ ((st5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ ((st4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).2 ++ ((st3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ ((st2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ (st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2)))))) (ix3 1 j a) = (batchOf i x0 x1 x2 x3 x4 x5 x6).gt (at256 5 a) j :=
  (P6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).fills.hit _ _ _ j a

variable (y7 y10 y11 : Vec Ideal S3x1536 .f32)

/-! ## The images' gradient -/

theorem dx_pieces : List.Forall₂ (fun (kq : ℕ × ℕ) p => OutPiece 384 (batchOf i x0 x1 x2 x3 x4 x5 x6).dx kq.1 kq.2 p)
    [(5, 2), (5, 1), (5, 0), (4, 2), (4, 1), (4, 0), (3, 2), (3, 1), (3, 0), (2, 2), (2, 1), (2, 0), (1, 2), (1, 1), (1, 0), (0, 2), (0, 1), (0, 0)]
    (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 y7 y10 y11 s2).2.1 :=
  .cons (outPiece384 5 2 rfl (dx_val 5 2 (y_part c i arg4 harg4 arg7 harg7 arg14 x0 x1 x2 x3 x4 x5 x6 2 rfl) (gate_load_all (gates5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 5 1 rfl (dx_val 5 1 (y_part c i arg4 harg4 arg7 harg7 arg14 x0 x1 x2 x3 x4 x5 x6 1 rfl) (gate_load_all (gates5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 5 0 rfl (dx_val 5 0 (y_part c i arg4 harg4 arg7 harg7 arg14 x0 x1 x2 x3 x4 x5 x6 0 rfl) (gate_load_all (gates5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 4 2 rfl (dx_val 4 2 (y_part c i arg4 harg4 arg7 harg7 arg14 x0 x1 x2 x3 x4 x5 x6 2 rfl) (gate_load_all (gates4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 4 1 rfl (dx_val 4 1 (y_part c i arg4 harg4 arg7 harg7 arg14 x0 x1 x2 x3 x4 x5 x6 1 rfl) (gate_load_all (gates4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 4 0 rfl (dx_val 4 0 (y_part c i arg4 harg4 arg7 harg7 arg14 x0 x1 x2 x3 x4 x5 x6 0 rfl) (gate_load_all (gates4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 3 2 rfl (dx_val 3 2 (y_part c i arg4 harg4 arg7 harg7 arg14 x0 x1 x2 x3 x4 x5 x6 2 rfl) (gate_load_all (gates3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 3 1 rfl (dx_val 3 1 (y_part c i arg4 harg4 arg7 harg7 arg14 x0 x1 x2 x3 x4 x5 x6 1 rfl) (gate_load_all (gates3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 3 0 rfl (dx_val 3 0 (y_part c i arg4 harg4 arg7 harg7 arg14 x0 x1 x2 x3 x4 x5 x6 0 rfl) (gate_load_all (gates3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 2 2 rfl (dx_val 2 2 (y_part c i arg4 harg4 arg7 harg7 arg14 x0 x1 x2 x3 x4 x5 x6 2 rfl) (gate_load_all (gates2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 2 1 rfl (dx_val 2 1 (y_part c i arg4 harg4 arg7 harg7 arg14 x0 x1 x2 x3 x4 x5 x6 1 rfl) (gate_load_all (gates2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 2 0 rfl (dx_val 2 0 (y_part c i arg4 harg4 arg7 harg7 arg14 x0 x1 x2 x3 x4 x5 x6 0 rfl) (gate_load_all (gates2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 1 2 rfl (dx_val 1 2 (y_part c i arg4 harg4 arg7 harg7 arg14 x0 x1 x2 x3 x4 x5 x6 2 rfl) (gate_load_all (gates1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 1 1 rfl (dx_val 1 1 (y_part c i arg4 harg4 arg7 harg7 arg14 x0 x1 x2 x3 x4 x5 x6 1 rfl) (gate_load_all (gates1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 1 0 rfl (dx_val 1 0 (y_part c i arg4 harg4 arg7 harg7 arg14 x0 x1 x2 x3 x4 x5 x6 0 rfl) (gate_load_all (gates1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 0 2 rfl (dx_val 0 2 (y_part c i arg4 harg4 arg7 harg7 arg14 x0 x1 x2 x3 x4 x5 x6 2 rfl) (gate_load_all (gates0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 0 1 rfl (dx_val 0 1 (y_part c i arg4 harg4 arg7 harg7 arg14 x0 x1 x2 x3 x4 x5 x6 1 rfl) (gate_load_all (gates0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.cons (outPiece384 0 0 rfl (dx_val 0 0 (y_part c i arg4 harg4 arg7 harg7 arg14 x0 x1 x2 x3 x4 x5 x6 0 rfl) (gate_load_all (gates0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) _) (r_2_apply c arg1 harg1 x0)))
    (.nil))))))))))))))))))

/-! ## The texts' gradient -/

theorem acc6 : AccIs (batchOf i x0 x1 x2 x3 x4 x5 x6) arg16.view (lvl 6) (run.sl.HS3_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.init (x := fun _ => arg13.view.readCov (run.sl.HS0_54 (F := Ideal) c i arg3 harg3 arg6 harg6 x2 x5) (Rect.unit (s := S1152x1536) ![0, 0] S1152x256.size (by decide)).toLoadRect)
    (g := fun jt => View.readAt (Elt Ideal) arg15.view (Rect.unit (s := S2x1536x256) ![0, 256 * jt.val, 0] S1x256x256.size
      (by intro b; fin_cases b <;> fin_cases jt <;> decide)).toLoadRect (arg15.view.writes (Elt Ideal) (harg15.unread s2) ((st2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2 ++ (st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2)))
    (by intro jt b; fin_cases b <;> fin_cases jt <;> decide) (fun _ => x_part c i arg3 harg3 arg6 harg6 arg13 x0 x1 x2 x3 x4 x5 x6 0 rfl) (fun jt => gate_load (gates0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) jt _)

theorem acc7 : AccIs (batchOf i x0 x1 x2 x3 x4 x5 x6) arg16.view (lvl 7) (run.sl.HS3_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 6 0 0 rfl (acc6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 1 rfl) (gate_load (gates1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 0 _)

theorem acc8 : AccIs (batchOf i x0 x1 x2 x3 x4 x5 x6) arg16.view (lvl 8) (run.sl.HS3_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 7 0 1 rfl (acc7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 1 rfl) (gate_load (gates1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 1 _)

theorem acc9 : AccIs (batchOf i x0 x1 x2 x3 x4 x5 x6) arg16.view (lvl 9) (run.sl.HS3_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 8 0 2 rfl (acc8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 1 rfl) (gate_load (gates1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 2 _)

theorem acc10 : AccIs (batchOf i x0 x1 x2 x3 x4 x5 x6) arg16.view (lvl 10) (run.sl.HS3_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 9 0 3 rfl (acc9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 1 rfl) (gate_load (gates1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 3 _)

theorem acc11 : AccIs (batchOf i x0 x1 x2 x3 x4 x5 x6) arg16.view (lvl 11) (run.sl.HS3_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 10 0 4 rfl (acc10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 1 rfl) (gate_load (gates1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 4 _)

theorem acc13 : AccIs (batchOf i x0 x1 x2 x3 x4 x5 x6) arg16.view (lvl 13) (run.sl.HS3_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 12 1 0 rfl (AccIs.step 11 0 5 rfl (acc11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 1 rfl) (gate_load (gates1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 5 _)) rfl (x_part c i arg3 harg3 arg6 harg6 arg13 x0 x1 x2 x3 x4 x5 x6 2 rfl) (gate_load (gates2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 0 _)

theorem acc14 : AccIs (batchOf i x0 x1 x2 x3 x4 x5 x6) arg16.view (lvl 14) (run.sl.HS3_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 13 1 1 rfl (acc13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 2 rfl) (gate_load (gates2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 1 _)

theorem acc15 : AccIs (batchOf i x0 x1 x2 x3 x4 x5 x6) arg16.view (lvl 15) (run.sl.HS3_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 14 1 2 rfl (acc14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 2 rfl) (gate_load (gates2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 2 _)

theorem acc16 : AccIs (batchOf i x0 x1 x2 x3 x4 x5 x6) arg16.view (lvl 16) (run.sl.HS3_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 15 1 3 rfl (acc15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 2 rfl) (gate_load (gates2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 3 _)

theorem acc17 : AccIs (batchOf i x0 x1 x2 x3 x4 x5 x6) arg16.view (lvl 17) (run.sl.HS3_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 16 1 4 rfl (acc16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 2 rfl) (gate_load (gates2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 4 _)

theorem acc19 : AccIs (batchOf i x0 x1 x2 x3 x4 x5 x6) arg16.view (lvl 19) (run.sl.HS3_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 18 2 0 rfl (AccIs.step 17 1 5 rfl (acc17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 2 rfl) (gate_load (gates2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 5 _)) rfl (x_part c i arg3 harg3 arg6 harg6 arg13 x0 x1 x2 x3 x4 x5 x6 3 rfl) (gate_load (gates3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 0 _)

theorem acc20 : AccIs (batchOf i x0 x1 x2 x3 x4 x5 x6) arg16.view (lvl 20) (run.sl.HS3_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 19 2 1 rfl (acc19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 3 rfl) (gate_load (gates3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 1 _)

theorem acc21 : AccIs (batchOf i x0 x1 x2 x3 x4 x5 x6) arg16.view (lvl 21) (run.sl.HS3_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 20 2 2 rfl (acc20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 3 rfl) (gate_load (gates3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 2 _)

theorem acc22 : AccIs (batchOf i x0 x1 x2 x3 x4 x5 x6) arg16.view (lvl 22) (run.sl.HS3_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 21 2 3 rfl (acc21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 3 rfl) (gate_load (gates3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 3 _)

theorem acc23 : AccIs (batchOf i x0 x1 x2 x3 x4 x5 x6) arg16.view (lvl 23) (run.sl.HS3_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 22 2 4 rfl (acc22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 3 rfl) (gate_load (gates3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 4 _)

theorem acc25 : AccIs (batchOf i x0 x1 x2 x3 x4 x5 x6) arg16.view (lvl 25) (run.sl.HS3_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 24 3 0 rfl (AccIs.step 23 2 5 rfl (acc23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 3 rfl) (gate_load (gates3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 5 _)) rfl (x_part c i arg3 harg3 arg6 harg6 arg13 x0 x1 x2 x3 x4 x5 x6 4 rfl) (gate_load (gates4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 0 _)

theorem acc26 : AccIs (batchOf i x0 x1 x2 x3 x4 x5 x6) arg16.view (lvl 26) (run.sl.HS3_26 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 25 3 1 rfl (acc25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 4 rfl) (gate_load (gates4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 1 _)

theorem acc27 : AccIs (batchOf i x0 x1 x2 x3 x4 x5 x6) arg16.view (lvl 27) (run.sl.HS3_27 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 26 3 2 rfl (acc26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 4 rfl) (gate_load (gates4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 2 _)

theorem acc28 : AccIs (batchOf i x0 x1 x2 x3 x4 x5 x6) arg16.view (lvl 28) (run.sl.HS3_28 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 27 3 3 rfl (acc27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 4 rfl) (gate_load (gates4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 3 _)

theorem acc29 : AccIs (batchOf i x0 x1 x2 x3 x4 x5 x6) arg16.view (lvl 29) (run.sl.HS3_29 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 28 3 4 rfl (acc28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 4 rfl) (gate_load (gates4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 4 _)

theorem acc30 : AccIs (batchOf i x0 x1 x2 x3 x4 x5 x6) arg16.view (lvl 30) (run.sl.HS3_30 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) :=
  AccIs.step 29 3 5 rfl (acc29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) rfl (x_part c i arg3 harg3 arg6 harg6 arg13 x0 x1 x2 x3 x4 x5 x6 4 rfl) (gate_load (gates4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 5 _)

theorem dy_pieces : List.Forall₂ (fun (kq : ℕ × ℕ) p => OutPiece 1152 (batchOf i x0 x1 x2 x3 x4 x5 x6).dy kq.1 kq.2 p)
    [(5, 0), (4, 0), (3, 0), (2, 0), (1, 0), (0, 0)]
    (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 y7 y10 y11 s2).2.2.1 :=
  .cons (outPiece1152 5 rfl (dy_val 5 (x_part c i arg3 harg3 arg6 harg6 arg13 x0 x1 x2 x3 x4 x5 x6 5 rfl) (gate_load (gates5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 5 _) ((acc30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).load 5 rfl) (r_2_apply c arg1 harg1 x0)))
    (.cons (outPiece1152 4 rfl (dy_val 4 (x_part c i arg3 harg3 arg6 harg6 arg13 x0 x1 x2 x3 x4 x5 x6 5 rfl) (gate_load (gates5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 4 _) ((acc30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).load 4 rfl) (r_2_apply c arg1 harg1 x0)))
    (.cons (outPiece1152 3 rfl (dy_val 3 (x_part c i arg3 harg3 arg6 harg6 arg13 x0 x1 x2 x3 x4 x5 x6 5 rfl) (gate_load (gates5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 3 _) ((acc30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).load 3 rfl) (r_2_apply c arg1 harg1 x0)))
    (.cons (outPiece1152 2 rfl (dy_val 2 (x_part c i arg3 harg3 arg6 harg6 arg13 x0 x1 x2 x3 x4 x5 x6 5 rfl) (gate_load (gates5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 2 _) ((acc30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).load 2 rfl) (r_2_apply c arg1 harg1 x0)))
    (.cons (outPiece1152 1 rfl (dy_val 1 (x_part c i arg3 harg3 arg6 harg6 arg13 x0 x1 x2 x3 x4 x5 x6 5 rfl) (gate_load (gates5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 1 _) ((acc30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).load 1 rfl) (r_2_apply c arg1 harg1 x0)))
    (.cons (outPiece1152 0 rfl (dy_val 0 (x_part c i arg3 harg3 arg6 harg6 arg13 x0 x1 x2 x3 x4 x5 x6 5 rfl) (gate_load (gates5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2) 0 _) ((acc30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2).load 0 rfl) (r_2_apply c arg1 harg1 x0)))
    (.nil))))))

theorem dx_read (v : View sig .tc .vmem S1x1536x1152 .bf16) (f : v.ty.Contents (Elt Ideal)) (j : Fin 1536) (e : Fin 1152) :
    v.read (Elt Ideal) (v.writes (Elt Ideal) f (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 y7 y10 y11 s2).2.1) (ix3 0 j e) = (batchOf i x0 x1 x2 x3 x4 x5 x6).dx j e :=
  out_read (dx_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2 y7 y10 y11) (fun j e => by
    have hj : j.val / 256 < 6 := by omega
    have he : e.val / 384 < 3 := by omega
    generalize j.val / 256 = a at hj
    generalize e.val / 384 = b at he
    interval_cases a <;> interval_cases b <;> decide) v f j e

theorem dy_read (v : View sig .tc .vmem S1x1536x1152 .bf16) (f : v.ty.Contents (Elt Ideal)) (j : Fin 1536) (e : Fin 1152) :
    v.read (Elt Ideal) (v.writes (Elt Ideal) f (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 y7 y10 y11 s2).2.2.1) (ix3 0 j e) = (batchOf i x0 x1 x2 x3 x4 x5 x6).dy j e :=
  out_read (dy_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 s2 y7 y10 y11) (fun j e => by
    have hj : j.val / 256 < 6 := by omega
    have he : e.val / 1152 < 1 := by omega
    generalize j.val / 256 = a at hj
    generalize e.val / 1152 = b at he
    interval_cases a <;> interval_cases b <;> decide) v f j e

end

end Cert.KernelIdeal.Hand

end
-- ==== Proof.Meets.lean ====
/-
What the outputs' buffers hold after each grid point, over the extended reals.

The three buffers of row sums stay in place from point to point, each point filling its own row; the two gradients' buffers
are filled afresh at every point.
-/
module

public import proofs.«01_k».proof.Proof.Body
public import proofs.«01_k».proof.Proof.Rows
public import proofs.«01_k».proof.Proof.Grads

@[expose] public section

set_option maxRecDepth 16384

noncomputable section

namespace Cert.KernelIdeal.Hand

open Cert.KernelIdeal.Gen Cert.Siglip
open Idealize.ShloMosaic Idealize.ShloMosaic.TcCoe

variable (m : (ℓ : Loc nD τ sig) → Buf (Elt Ideal) ℓ)

/-- The batch of point `t`, as its blocks hold it. -/
def batchAt (c : Dev nD) (t : Fin cfg0.N) : Batch :=
  batchOf (grid0.coords t) (iblk m c 0 t) (iblk m c 1 t) (iblk m c 2 t) (iblk m c 3 t) (iblk m c 4 t) (iblk m c 5 t) (iblk m c 6 t)

/-- The row of point `t`. -/
def rowOf (t : Fin cfg0.N) : Fin 3 := grid0.coords t 0

theorem rowOf_ne {u t : Fin cfg0.N} (h : u.val < t.val) : rowOf u ≠ rowOf t := by
  rcases fin_N0 u with rfl | rfl | rfl <;> rcases fin_N0 t with rfl | rfl | rfl <;>
    first | (exfalso; revert h; decide) | decide

/-- The rows of `X` up to point `t` hold `g`. -/
def Upto (g : Fin cfg0.N → Fin 1536 → EReal) (t : Fin cfg0.N) (X : Vec Ideal S3x1536 .f32) : Prop :=
  ∀ u : Fin cfg0.N, u.val ≤ t.val → ∀ j : Fin 1536, X (ix2 (rowOf u) j) = g u j

/-- `X` holds `g`. -/
def Holds (g : Fin 1536 → Fin 1152 → EReal) (X : Vec Ideal S1x1536x1152 .bf16) : Prop :=
  ∀ (j : Fin 1536) (e : Fin 1152), X (ix3 0 j e) = g j e

/-- What the outputs' buffers hold after point `t`. -/
def Rl (c : Dev nD) : Rels Ideal := fun w t => match w with
  | ⟨7, _⟩ => fun X => Upto (fun u => (batchAt m c u).loss) t X
  | ⟨8, _⟩ => fun X => Holds (batchAt m c t).dx X
  | ⟨9, _⟩ => fun X => Holds (batchAt m c t).dy X
  | ⟨10, _⟩ => fun X => Upto (fun u => (batchAt m c u).dt) t X
  | ⟨11, _⟩ => fun X => Upto (fun u => (batchAt m c u).db) t X
  | _ => fun _ => True

/-- A point that fills its row of a buffer filled up to the point before leaves it filled up to itself. -/
theorem Upto.step {g : Fin cfg0.N → Fin 1536 → EReal} {t : Fin cfg0.N} {L : List (View.Piece (Elt Ideal) S3x1536 .f32)}
    (h : RowFills (rowOf t) (g t) L) (M : Memref sig .tc .vmem S3x1536 .f32) (hM : M.IsWhole) (Y : Vec Ideal S3x1536 .f32)
    (hY : ∀ ht : t.val ≠ 0, Upto g ⟨t.val - 1, Nat.lt_of_le_of_lt (Nat.sub_le _ _) t.isLt⟩ Y) :
    Upto g t (M.view.read (Elt Ideal) (M.view.writes (Elt Ideal) (hM.unread Y) L)) := by
  intro u hu j
  rcases Nat.lt_or_eq_of_le hu with hlt | heq
  · rw [h.miss (rowOf_ne hlt), hM.read_unread]
    exact hY (by omega) u (by show u.val ≤ t.val - 1; omega) j
  · obtain rfl : u = t := Fin.ext heq
    exact h.hit _ _ j

theorem found7 (c : Dev nD) (t : Fin cfg0.N) (Y : Vec Ideal S3x1536 .f32) (h : (rdat m (Rl m) c).Finds 7 t Y) (ht : t.val ≠ 0) :
    Rl m c 7 ⟨t.val - 1, Nat.lt_of_le_of_lt (Nat.sub_le _ _) t.isLt⟩ Y := by
  rcases ((rdat m (Rl m) c).finds_of_pos ((cfg0.win 7).fetch_out rfl t) ht Y).mp h with hf | hL
  · exfalso
    have h1 := (flush0_7 ⟨t.val - 1, Nat.lt_of_le_of_lt (Nat.sub_le _ _) t.isLt⟩).mp hf
    have h2 : t.val < 3 := t.isLt
    have h3 : (t.val - 1) % 3 = 2 := h1
    omega
  · exact Pipeline.Dat.toRRel_leaves _ (fgt := forgets0) (Rl := Rl m c) rfl hL

theorem found10 (c : Dev nD) (t : Fin cfg0.N) (Y : Vec Ideal S3x1536 .f32) (h : (rdat m (Rl m) c).Finds 10 t Y) (ht : t.val ≠ 0) :
    Rl m c 10 ⟨t.val - 1, Nat.lt_of_le_of_lt (Nat.sub_le _ _) t.isLt⟩ Y := by
  rcases ((rdat m (Rl m) c).finds_of_pos ((cfg0.win 10).fetch_out rfl t) ht Y).mp h with hf | hL
  · exfalso
    have h1 := (flush0_10 ⟨t.val - 1, Nat.lt_of_le_of_lt (Nat.sub_le _ _) t.isLt⟩).mp hf
    have h2 : t.val < 3 := t.isLt
    have h3 : (t.val - 1) % 3 = 2 := h1
    omega
  · exact Pipeline.Dat.toRRel_leaves _ (fgt := forgets0) (Rl := Rl m c) rfl hL

theorem found11 (c : Dev nD) (t : Fin cfg0.N) (Y : Vec Ideal S3x1536 .f32) (h : (rdat m (Rl m) c).Finds 11 t Y) (ht : t.val ≠ 0) :
    Rl m c 11 ⟨t.val - 1, Nat.lt_of_le_of_lt (Nat.sub_le _ _) t.isLt⟩ Y := by
  rcases ((rdat m (Rl m) c).finds_of_pos ((cfg0.win 11).fetch_out rfl t) ht Y).mp h with hf | hL
  · exfalso
    have h1 := (flush0_11 ⟨t.val - 1, Nat.lt_of_le_of_lt (Nat.sub_le _ _) t.isLt⟩).mp hf
    have h2 : t.val < 3 := t.isLt
    have h3 : (t.val - 1) % 3 = 2 := h1
    omega
  · exact Pipeline.Dat.toRRel_leaves _ (fgt := forgets0) (Rl := Rl m c) rfl hL

/-- The run's stores leave the buffers so. -/
theorem meets : Meets m (Rl m) := fun c t y7 y10 y11 s2 h7 h10 h11 =>
  ⟨Upto.step (g := fun u => (batchAt m c u).loss) (loss_fills ..) (ms0_7 t) (hs0_7 t) y7 (found7 m c t y7 h7),
    fun f j e => dx_read (f := f) (j := j) (e := e) ..,
    fun f j e => dy_read (f := f) (j := j) (e := e) ..,
    Upto.step (g := fun u => (batchAt m c u).dt) (dt_fills ..) (ms0_10 t) (hs0_10 t) y10 (found10 m c t y10 h10),
    Upto.step (g := fun u => (batchAt m c u).db) (db_fills ..) (ms0_11 t) (hs0_11 t) y11 (found11 m c t y11 h11)⟩

end Cert.KernelIdeal.Hand

end
-- ==== Proof.Arrays.lean ====
/-
The arrays the kernel leaves, over the extended reals, as functions of its arguments.
-/
module

public import proofs.«01_k».proof.Proof.Meets
public import Idealize.ShloMosaic.Lib.Pipeline.ValueKit.Point

@[expose] public section

set_option maxRecDepth 16384

noncomputable section

namespace Cert.KernelIdeal.Hand

open Cert.KernelIdeal.Gen Cert.Siglip
open Idealize.ShloMosaic Idealize.ShloMosaic.TcCoe Idealize.SL.Sem

variable (m : (ℓ : Loc nD τ sig) → Buf (Elt Ideal) ℓ) (ρ : Dev nD → PrngReg)

/-- Batch `b` of the arguments. -/
def argBatch (c : Dev nD) (b : Fin 3) : Batch where
  X i d := (m ((c : Thread nD τ).loc main_arg0) : Vec Ideal S3x1536x1152 .fp8e4m3) (ix3 b i d)
  SX i := (m ((c : Thread nD τ).loc main_arg1) : Vec Ideal S3x1536 .f32) (ix2 b i)
  Y j d := (m ((c : Thread nD τ).loc main_arg2) : Vec Ideal S3x1536x1152 .fp8e4m3) (ix3 b j d)
  SY j := (m ((c : Thread nD τ).loc main_arg3) : Vec Ideal S3x1536 .f32) (ix2 b j)
  ID i := (m ((c : Thread nD τ).loc main_arg4) : Vec Ideal S3x1536 .i32) (ix2 b i)
  T := Ideal.exp ((m ((c : Thread nD τ).loc main_arg5) : Vec Ideal S_ .f32) ix0)
  B := (m ((c : Thread nD τ).loc main_arg6) : Vec Ideal S_ .f32) ix0

theorem blk0 (c : Dev nD) (t : Fin cfg0.N) :
    (iblk m c 0 t : Vec Ideal S1x1 .f32) (ix2 0 0) = (m ((c : Thread nD τ).loc main_arg5) : Vec Ideal S_ .f32) ix0 := by
  blk_simp [iblk]
  entry_read
  unfold shapeCast
  exact congrArg (m _) (funext fun a => a.elim0)

theorem blk1 (c : Dev nD) (t : Fin cfg0.N) :
    (iblk m c 1 t : Vec Ideal S1x1 .f32) (ix2 0 0) = (m ((c : Thread nD τ).loc main_arg6) : Vec Ideal S_ .f32) ix0 := by
  blk_simp [iblk]
  entry_read
  unfold shapeCast
  exact congrArg (m _) (funext fun a => a.elim0)

theorem idx2 : ∀ t : Fin cfg0.N, win0_2.index t = ![0, 0] := (by decide +kernel : ∀ t : Fin grid0.N, win0_2.index t = ![0, 0])
theorem blk2 (c : Dev nD) (t : Fin cfg0.N) (b : Fin 3) (i : Fin 1536) :
    (iblk m c 2 t : Vec Ideal S3x1536 .f32) (ix2 b i) = (m ((c : Thread nD τ).loc main_arg1) : Vec Ideal S3x1536 .f32) (ix2 b i) := by
  blk_ext! [iblk, V_main_arg1, idx2 t]

theorem idx3 : ∀ t : Fin cfg0.N, win0_3.index t = ![0, 0] := (by decide +kernel : ∀ t : Fin grid0.N, win0_3.index t = ![0, 0])
theorem blk3 (c : Dev nD) (t : Fin cfg0.N) (b : Fin 3) (i : Fin 1536) :
    (iblk m c 3 t : Vec Ideal S3x1536 .f32) (ix2 b i) = (m ((c : Thread nD τ).loc main_arg3) : Vec Ideal S3x1536 .f32) (ix2 b i) := by
  blk_ext! [iblk, V_main_arg3, idx3 t]

theorem idx4 : ∀ t : Fin cfg0.N, win0_4.index t = ![0, 0] := (by decide +kernel : ∀ t : Fin grid0.N, win0_4.index t = ![0, 0])
theorem blk4 (c : Dev nD) (t : Fin cfg0.N) (b : Fin 3) (i : Fin 1536) :
    (iblk m c 4 t : Vec Ideal S3x1536 .i32) (ix2 b i) = (m ((c : Thread nD τ).loc main_arg4) : Vec Ideal S3x1536 .i32) (ix2 b i) := by
  blk_ext! [iblk, V_main_arg4, idx4 t]

theorem idx5 : ∀ t : Fin cfg0.N, win0_5.index t = ![(rowOf t).val, 0, 0] := (by decide +kernel : ∀ t : Fin grid0.N, win0_5.index t = ![(grid0.coords t 0).val, 0, 0])
theorem blk5 (c : Dev nD) (t : Fin cfg0.N) (i : Fin 1536) (d : Fin 1152) :
    (iblk m c 5 t : Vec Ideal S1x1536x1152 .fp8e4m3) (ix3 0 i d) = (m ((c : Thread nD τ).loc main_arg0) : Vec Ideal S3x1536x1152 .fp8e4m3) (ix3 (rowOf t) i d) := by
  blk_ext! [iblk, V_main_arg0, idx5 t]

theorem idx6 : ∀ t : Fin cfg0.N, win0_6.index t = ![(rowOf t).val, 0, 0] := (by decide +kernel : ∀ t : Fin grid0.N, win0_6.index t = ![(grid0.coords t 0).val, 0, 0])
theorem blk6 (c : Dev nD) (t : Fin cfg0.N) (i : Fin 1536) (d : Fin 1152) :
    (iblk m c 6 t : Vec Ideal S1x1536x1152 .fp8e4m3) (ix3 0 i d) = (m ((c : Thread nD τ).loc main_arg2) : Vec Ideal S3x1536x1152 .fp8e4m3) (ix3 (rowOf t) i d) := by
  blk_ext! [iblk, V_main_arg2, idx6 t]

/-- The batch of a point is its row's. -/
theorem batchAt_eq (c : Dev nD) (t : Fin cfg0.N) : batchAt m c t = argBatch m c (rowOf t) := by
  unfold batchAt argBatch batchOf
  congr 1
  · funext i d; exact blk5 m c t i d
  · funext j d; exact blk6 m c t j d
  · funext i; exact blk2 m c t _ i
  · funext j; exact blk3 m c t _ j
  · funext i; exact blk4 m c t _ i

theorem idx8 : ∀ t : Fin cfg0.N, win0_8.index t = ![(rowOf t).val, 0, 0] := (by decide +kernel : ∀ t : Fin grid0.N, win0_8.index t = ![(grid0.coords t 0).val, 0, 0])
theorem idx9 : ∀ t : Fin cfg0.N, win0_9.index t = ![(rowOf t).val, 0, 0] := (by decide +kernel : ∀ t : Fin grid0.N, win0_9.index t = ![(grid0.coords t 0).val, 0, 0])

theorem rowOf_surj (b : Fin 3) : ∃ u : Fin cfg0.N, u.val ≤ t0_2.val ∧ rowOf u = b := by
  fin_cases b
  exacts [⟨t0_0, by decide, by decide⟩, ⟨t0_1, by decide, by decide⟩, ⟨t0_2, by decide, by decide⟩]

variable {m}

theorem final7 (c : Dev nD) {after : (w' : Fin cfg0.W) → Fin cfg0.N → (cfg0.win w').block.Idx → Elt Ideal (cfg0.win w').elt}
    (h : Rl m c 7 t0_2 (after 7 t0_2)) :
    ((rdat m (Rl m) c).withAfter after).arrAt 7 cfg0.N
      = (fun y => (argBatch m c (y 0)).loss (y 1) : Vec Ideal S3x1536 .f32) := by
  refine Pipeline.Dat.arrAt_eq_of_after_last _ 7 t0_2 (by decide +kernel) _ fun j => ?_
  blk_simp
  obtain ⟨u, hu, hb⟩ := rowOf_surj (j 0)
  have key : after 7 t0_2 (ix2 (rowOf u) (j 1)) = (batchAt m c u).loss (j 1) := h u hu (j 1)
  rw [batchAt_eq, hb] at key
  refine Eq.trans (congrArg (after 7 t0_2) ?_) key
  funext a
  fin_cases a <;> rfl

theorem final10 (c : Dev nD) {after : (w' : Fin cfg0.W) → Fin cfg0.N → (cfg0.win w').block.Idx → Elt Ideal (cfg0.win w').elt}
    (h : Rl m c 10 t0_2 (after 10 t0_2)) :
    ((rdat m (Rl m) c).withAfter after).arrAt 10 cfg0.N
      = (fun y => (argBatch m c (y 0)).dt (y 1) : Vec Ideal S3x1536 .f32) := by
  refine Pipeline.Dat.arrAt_eq_of_after_last _ 10 t0_2 (by decide +kernel) _ fun j => ?_
  blk_simp
  obtain ⟨u, hu, hb⟩ := rowOf_surj (j 0)
  have key : after 10 t0_2 (ix2 (rowOf u) (j 1)) = (batchAt m c u).dt (j 1) := h u hu (j 1)
  rw [batchAt_eq, hb] at key
  refine Eq.trans (congrArg (after 10 t0_2) ?_) key
  funext a
  fin_cases a <;> rfl

theorem final11 (c : Dev nD) {after : (w' : Fin cfg0.W) → Fin cfg0.N → (cfg0.win w').block.Idx → Elt Ideal (cfg0.win w').elt}
    (h : Rl m c 11 t0_2 (after 11 t0_2)) :
    ((rdat m (Rl m) c).withAfter after).arrAt 11 cfg0.N
      = (fun y => (argBatch m c (y 0)).db (y 1) : Vec Ideal S3x1536 .f32) := by
  refine Pipeline.Dat.arrAt_eq_of_after_last _ 11 t0_2 (by decide +kernel) _ fun j => ?_
  blk_simp
  obtain ⟨u, hu, hb⟩ := rowOf_surj (j 0)
  have key : after 11 t0_2 (ix2 (rowOf u) (j 1)) = (batchAt m c u).db (j 1) := h u hu (j 1)
  rw [batchAt_eq, hb] at key
  refine Eq.trans (congrArg (after 11 t0_2) ?_) key
  funext a
  fin_cases a <;> rfl

theorem final8 (c : Dev nD) {after : (w' : Fin cfg0.W) → Fin cfg0.N → (cfg0.win w').block.Idx → Elt Ideal (cfg0.win w').elt}
    (h : ∀ t, Rl m c 8 t (after 8 t)) :
    ((rdat m (Rl m) c).withAfter after).arrAt 8 cfg0.N
      = (fun y => (argBatch m c (y 0)).dx (y 1) (y 2) : Vec Ideal S3x1536x1152 .bf16) := by
  refine Pipeline.Dat.arrAt_eq_of_covers _ 8 _ (by decide +kernel) fun t hf y => ?_
  blk_simp
  have key := h t (y 1) (y 2)
  rw [batchAt_eq] at key
  refine Eq.trans (congrArg (after 8 t) ?_) (key.trans (Eq.symm ?_))
  · funext a
    fin_cases a
    · exact Subsingleton.elim (α := Fin 1) _ _
    · rfl
    · rfl
  · have e0 : (win0_8.blk t).view.emb y 0 = rowOf t := by
      refine Fin.ext ?_
      blk_simp [idx8]
    have e1 : (win0_8.blk t).view.emb y 1 = y 1 := by
      refine Fin.ext ?_
      blk_simp [idx8]
    have e2 : (win0_8.blk t).view.emb y 2 = y 2 := by
      refine Fin.ext ?_
      blk_simp [idx8]
    rw [e0, e1, e2]

theorem final9 (c : Dev nD) {after : (w' : Fin cfg0.W) → Fin cfg0.N → (cfg0.win w').block.Idx → Elt Ideal (cfg0.win w').elt}
    (h : ∀ t, Rl m c 9 t (after 9 t)) :
    ((rdat m (Rl m) c).withAfter after).arrAt 9 cfg0.N
      = (fun y => (argBatch m c (y 0)).dy (y 1) (y 2) : Vec Ideal S3x1536x1152 .bf16) := by
  refine Pipeline.Dat.arrAt_eq_of_covers _ 9 _ (by decide +kernel) fun t hf y => ?_
  blk_simp
  have key := h t (y 1) (y 2)
  rw [batchAt_eq] at key
  refine Eq.trans (congrArg (after 9 t) ?_) (key.trans (Eq.symm ?_))
  · funext a
    fin_cases a
    · exact Subsingleton.elim (α := Fin 1) _ _
    · rfl
    · rfl
  · have e0 : (win0_9.blk t).view.emb y 0 = rowOf t := by
      refine Fin.ext ?_
      blk_simp [idx9]
    have e1 : (win0_9.blk t).view.emb y 1 = y 1 := by
      refine Fin.ext ?_
      blk_simp [idx9]
    have e2 : (win0_9.blk t).view.emb y 2 = y 2 := by
      refine Fin.ext ?_
      blk_simp [idx9]
    rw [e0, e1, e2]

variable (m)

/-- Every run leaves the five results of every batch, and the arguments as they were. -/
theorem values : θ_run defs (onTc (τ := τ) (main (F := Ideal))) ⟨m, fun _ => 0, ρ⟩ (fun r => ∀ c : Dev nD,
      r.2.mem ((c.tc : Thread nD τ).loc main_v2_0) = ((fun y => (argBatch m c (y 0)).loss (y 1)) : Vec Ideal S3x1536 .f32)
      ∧ r.2.mem ((c.tc : Thread nD τ).loc main_v2_1) = ((fun y => (argBatch m c (y 0)).dx (y 1) (y 2)) : Vec Ideal S3x1536x1152 .bf16)
      ∧ r.2.mem ((c.tc : Thread nD τ).loc main_v2_2) = ((fun y => (argBatch m c (y 0)).dy (y 1) (y 2)) : Vec Ideal S3x1536x1152 .bf16)
      ∧ r.2.mem ((c.tc : Thread nD τ).loc main_v2_3) = ((fun y => (argBatch m c (y 0)).dt (y 1)) : Vec Ideal S3x1536 .f32)
      ∧ r.2.mem ((c.tc : Thread nD τ).loc main_v2_4) = ((fun y => (argBatch m c (y 0)).db (y 1)) : Vec Ideal S3x1536 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main ρ (meets m))
  obtain ⟨after, hL, hA⟩ := Pipeline.RDat.FramePost.exists_exact h.1 c
  have hR : ∀ w u, (cfg0.win w).flush u = true → forgets0 w = true → Rl m c w u (after w u) := fun w u hf hw =>
    Pipeline.Dat.toRRel_leaves _ (fgt := forgets0) (Rl := Rl m c) hw (hL w u hf)
  exact ⟨(hA 7).trans (final7 c (hR 7 t0_2 ((flush0_7 t0_2).mpr rfl) rfl)),
    (hA 8).trans (final8 c fun t => hR 8 t (flush0_8 t) rfl),
    (hA 9).trans (final9 c fun t => hR 9 t (flush0_9 t) rfl),
    (hA 10).trans (final10 c (hR 10 t0_2 ((flush0_10 t0_2).mpr rfl) rfl)),
    (hA 11).trans (final11 c (hR 11 t0_2 ((flush0_11 t0_2).mpr rfl) rfl)), kept h.1 c⟩

end Cert.KernelIdeal.Hand

end
-- ==== Proof.Reference.lean ====
/-
The arrays the reference leaves, over the extended reals, as functions of its arguments.
-/
module

public import proofs.«01_k».proof.Proof.Core
public import proofs.«01_k».proof.Proof.Gen.ReferenceIdeal.Value
public import Idealize.ShloMosaic.Lib.Pipeline.ValueKit.Point

@[expose] public section

set_option maxRecDepth 16384

noncomputable section

namespace Cert.ReferenceIdeal.Hand

open Cert.ReferenceIdeal Cert.ReferenceIdeal.Gen Cert.Siglip
open Idealize.ShloMosaic Idealize.ShloMosaic.TcCoe Idealize.SL.Sem

/-! ## The reference's lines at an index -/

section
variable (x y : Vec Ideal S3x1536x1152 .fp8e4m3) (sx sy : Vec Ideal S3x1536 .f32) (id : Vec Ideal S3x1536 .i32) (tp b : Vec Ideal S1x1x1 .f32)

/-- Batch `a` of the blocks. -/
def blockBatch (a : Fin 3) : Batch where
  X i d := x (ix3 a i d)
  SX i := sx (ix2 a i)
  Y j d := y (ix3 a j d)
  SY j := sy (ix2 a j)
  ID i := id (ix2 a i)
  T := Ideal.exp (tp (ix3 0 0 0))
  B := b (ix3 0 0 0)

theorem t_apply : (k0_pay1 tp (ix3 0 0 0) : EReal) = Ideal.exp (tp (ix3 0 0 0)) := by
  pointwise [k0_pay1]
theorem raw_apply (a : Fin 3) (i j : Fin 1536) :
    (k0_pay4 x sx y sy (ix3 a i j) : EReal) = (∑ d, (x (ix3 a i d) * y (ix3 a j d) : EReal)) * sx (ix2 a i) * sy (ix2 a j) := by
  pointwise [k0_pay4]
theorem logit_apply (a : Fin 3) (i j : Fin 1536) :
    (k0_pay5 x sx y sy tp b (ix3 a i j) : EReal) = (blockBatch x y sx sy id tp b a).dot i j + (blockBatch x y sx sy id tp b a).B := by
  pointwise [k0_pay5, k0_pay4, k0_pay1, Batch.dot, Batch.raw, blockBatch]
theorem pair_apply (a : Fin 3) (i j : Fin 1536) :
    (k0_pay6 id (ix3 a i j) : BitVec 1) = (blockBatch x y sx sy id tp b a).pr i j := by
  pointwise [k0_pay6, Batch.pr, blockBatch]
theorem signed_apply (a : Fin 3) (i j : Fin 1536) :
    (k0_pay7 x sx y sy id tp b (ix3 a i j) : EReal) = (blockBatch x y sx sy id tp b a).sg i j := by
  have h : (k0_pay7 x sx y sy id tp b (ix3 a i j) : EReal) = Scalar.select (k0_pay6 id (ix3 a i j)) (0 - (k0_pay5 x sx y sy tp b (ix3 a i j) : EReal)) (k0_pay5 x sx y sy tp b (ix3 a i j)) := by
    pointwise [k0_pay7]
  rw [h, logit_apply x y sx sy id tp b, pair_apply x y sx sy id tp b]
  rfl
theorem gate_apply (v : FVec Ideal S3x1536x1536 .f32) (p : IVec S3x1536x1536 1) (a : Fin 3) (i j : Fin 1536) :
    (k0_pay9 v p (ix3 a i j) : EReal) = gate (p (ix3 a i j)) (v (ix3 a i j)) := by
  pointwise [k0_pay9, gate]
theorem gt_apply (a : Fin 3) (i j : Fin 1536) :
    (k0_pay9 (F := Ideal) (k0_pay5 x sx y sy tp b) (k0_pay6 id) (ix3 a i j) : EReal) = (blockBatch x y sx sy id tp b a).gt i j := by
  rw [gate_apply, logit_apply x y sx sy id tp b, pair_apply x y sx sy id tp b]
  rfl
theorem soft_apply (v : FVec Ideal S3x1536x1536 .f32) (a : Fin 3) (i : Fin 1536) :
    (k0_pay8 (F := Ideal) v (Scalar.ofBits .f32 0x00000000#32) (ix2 a i) : EReal) = ∑ j, sp (v (ix3 a i j)) := by
  pointwise [k0_pay8, sp]

theorem loss_apply (a : Fin 3) (i : Fin 1536) :
    (k0_pay8 (F := Ideal) (k0_pay7 x sx y sy id tp b) (Scalar.ofBits .f32 0x00000000#32) (ix2 a i) : EReal) = (blockBatch x y sx sy id tp b a).loss i := by
  rw [soft_apply]
  exact Finset.sum_congr rfl fun j _ => congrArg sp (signed_apply x y sx sy id tp b a i j)

theorem dt_sum (t : FVec Ideal S1x1x1 .f32) (d v : FVec Ideal S3x1536x1536 .f32) (p : IVec S3x1536x1536 1) (a : Fin 3) (i : Fin 1536) :
    (k0_pay10 t d v p (ix2 a i) : EReal) = ∑ j, (k0_pay9 v p (ix3 a i j) * (t (ix3 0 0 0) * d (ix3 a i j)) : EReal) := by
  pointwise [k0_pay10]
theorem db_sum (v : FVec Ideal S3x1536x1536 .f32) (p : IVec S3x1536x1536 1) (a : Fin 3) (i : Fin 1536) :
    (k0_pay11 v p (ix2 a i) : EReal) = ∑ j, (k0_pay9 v p (ix3 a i j) : EReal) := by
  pointwise [k0_pay11]
theorem dx_sum (t : FVec Ideal S1x1x1 .f32) (v : FVec Ideal S3x1536x1536 .f32) (p : IVec S3x1536x1536 1) (a : Fin 3) (i : Fin 1536) (d : Fin 1152) :
    (k0_pay13 t (k0_pay3 y sy) v p (ix3 a i d) : EReal)
      = t (ix3 0 0 0) * ∑ j, (k0_pay9 v p (ix3 a i j) * (y (ix3 a j d) * sy (ix2 a j)) : EReal) := by
  pointwise [k0_pay13, k0_pay3, k0_pay12]
theorem dy_sum (t : FVec Ideal S1x1x1 .f32) (v : FVec Ideal S3x1536x1536 .f32) (p : IVec S3x1536x1536 1) (a : Fin 3) (j : Fin 1536) (d : Fin 1152) :
    (k0_pay14 t (k0_pay2 x sx) v p (ix3 a j d) : EReal)
      = t (ix3 0 0 0) * ∑ i, (k0_pay9 v p (ix3 a i j) * (x (ix3 a i d) * sx (ix2 a i)) : EReal) := by
  pointwise [k0_pay14, k0_pay2, k0_pay12]

theorem dt_apply (a : Fin 3) (i : Fin 1536) :
    (k0_pay10 (F := Ideal) (k0_pay1 tp) (k0_pay4 x sx y sy) (k0_pay5 x sx y sy tp b) (k0_pay6 id) (ix2 a i) : EReal) = (blockBatch x y sx sy id tp b a).dt i := by
  rw [dt_sum]
  refine Finset.sum_congr rfl fun j _ => ?_
  rw [gt_apply x y sx sy id tp b, raw_apply, t_apply]
  rfl
theorem db_apply (a : Fin 3) (i : Fin 1536) :
    (k0_pay11 (F := Ideal) (k0_pay5 x sx y sy tp b) (k0_pay6 id) (ix2 a i) : EReal) = (blockBatch x y sx sy id tp b a).db i := by
  rw [db_sum]
  exact Finset.sum_congr rfl fun j _ => gt_apply x y sx sy id tp b a i j
theorem dx_apply (a : Fin 3) (i : Fin 1536) (d : Fin 1152) :
    (k0_pay13 (F := Ideal) (k0_pay1 tp) (k0_pay3 y sy) (k0_pay5 x sx y sy tp b) (k0_pay6 id) (ix3 a i d) : EReal) = (blockBatch x y sx sy id tp b a).dx i d := by
  rw [dx_sum, t_apply]
  refine congrArg _ (Finset.sum_congr rfl fun j _ => ?_)
  rw [gt_apply x y sx sy id tp b]
  rfl
theorem dy_apply (a : Fin 3) (j : Fin 1536) (d : Fin 1152) :
    (k0_pay14 (F := Ideal) (k0_pay1 tp) (k0_pay2 x sx) (k0_pay5 x sx y sy tp b) (k0_pay6 id) (ix3 a j d) : EReal) = (blockBatch x y sx sy id tp b a).dy j d := by
  rw [dy_sum, t_apply]
  refine congrArg _ (Finset.sum_congr rfl fun i _ => ?_)
  rw [gt_apply x y sx sy id tp b]
  rfl

theorem z3 : (![0, 0, 0] : Fin S3x1536x1152.rank → Nat) = fun _ => 0 := funext fun a => by fin_cases a <;> rfl
theorem z2 : (![0, 0] : Fin S3x1536.rank → Nat) = fun _ => 0 := funext fun a => by fin_cases a <;> rfl
theorem z1 : (![0, 0, 0] : Fin S1x1x1.rank → Nat) = fun _ => 0 := funext fun a => by fin_cases a <;> rfl

theorem out7 (a : Fin 3) (i : Fin 1536) : (out0_7 (F := Ideal) x sx y sy id tp b (ix2 a i) : EReal) = (blockBatch x y sx sy id tp b a).loss i := by
  unfold_out out0_7
  rw [View.canon_unit_zero z2, View.ld_unit_zero z3, View.ld_unit_zero z2, View.ld_unit_zero z3, View.ld_unit_zero z2, View.ld_unit_zero z2, View.ld_unit_zero z1, View.ld_unit_zero z1]
  exact loss_apply x y sx sy id tp b a i
theorem out10 (a : Fin 3) (i : Fin 1536) : (out0_10 (F := Ideal) x sx y sy id tp b (ix2 a i) : EReal) = (blockBatch x y sx sy id tp b a).dt i := by
  unfold_out out0_10
  rw [View.canon_unit_zero z2]
  repeat first | rw [View.ld_unit_zero z3] | rw [View.ld_unit_zero z2] | rw [View.ld_unit_zero z1]
  exact dt_apply x y sx sy id tp b a i
theorem out11 (a : Fin 3) (i : Fin 1536) : (out0_11 (F := Ideal) x sx y sy id tp b (ix2 a i) : EReal) = (blockBatch x y sx sy id tp b a).db i := by
  unfold_out out0_11
  rw [View.canon_unit_zero z2]
  repeat first | rw [View.ld_unit_zero z3] | rw [View.ld_unit_zero z2] | rw [View.ld_unit_zero z1]
  exact db_apply x y sx sy id tp b a i
theorem out8 (a : Fin 3) (i : Fin 1536) (d : Fin 1152) : (out0_8 (F := Ideal) x sx y sy id tp b (ix3 a i d) : EReal) = (blockBatch x y sx sy id tp b a).dx i d := by
  unfold_out out0_8
  rw [View.canon_unit_zero z3]
  repeat first | rw [View.ld_unit_zero z3] | rw [View.ld_unit_zero z2] | rw [View.ld_unit_zero z1]
  exact dx_apply x y sx sy id tp b a i d
theorem out9 (a : Fin 3) (i : Fin 1536) (d : Fin 1152) : (out0_9 (F := Ideal) x sx y sy id tp b (ix3 a i d) : EReal) = (blockBatch x y sx sy id tp b a).dy i d := by
  unfold_out out0_9
  rw [View.canon_unit_zero z3]
  repeat first | rw [View.ld_unit_zero z3] | rw [View.ld_unit_zero z2] | rw [View.ld_unit_zero z1]
  exact dy_apply x y sx sy id tp b a i d
end

/-! ## The arrays -/

variable (m : (ℓ : Loc nD τ sig) → Buf (Elt Ideal) ℓ) (ρ : Dev nD → PrngReg)

/-- Batch `b` of the arguments. -/
def argBatch (c : Dev nD) (b : Fin 3) : Batch where
  X i d := (m ((c : Thread nD τ).loc main_arg0) : Vec Ideal S3x1536x1152 .fp8e4m3) (ix3 b i d)
  SX i := (m ((c : Thread nD τ).loc main_arg1) : Vec Ideal S3x1536 .f32) (ix2 b i)
  Y j d := (m ((c : Thread nD τ).loc main_arg2) : Vec Ideal S3x1536x1152 .fp8e4m3) (ix3 b j d)
  SY j := (m ((c : Thread nD τ).loc main_arg3) : Vec Ideal S3x1536 .f32) (ix2 b j)
  ID i := (m ((c : Thread nD τ).loc main_arg4) : Vec Ideal S3x1536 .i32) (ix2 b i)
  T := Ideal.exp ((m ((c : Thread nD τ).loc main_arg5) : Vec Ideal S_ .f32) ix0)
  B := (m ((c : Thread nD τ).loc main_arg6) : Vec Ideal S_ .f32) ix0

/-- The one grid point. -/
def t₀ : Fin cfg0.N := ⟨0, by decide⟩

theorem idx0 : ∀ t : Fin cfg0.N, win0_0.index t = ![0, 0, 0] := (by decide +kernel : ∀ t : Fin grid0.N, win0_0.index t = ![0, 0, 0])
theorem blk0 (c : Dev nD) (t : Fin cfg0.N) (b : Fin 3) (i : Fin 1536) (d : Fin 1152) :
    (iblk m c 0 t : Vec Ideal S3x1536x1152 .fp8e4m3) (ix3 b i d) = (m ((c : Thread nD τ).loc main_arg0) : Vec Ideal S3x1536x1152 .fp8e4m3) (ix3 b i d) := by
  blk_ext! [iblk, V_main_arg0, idx0 t]

theorem idx1 : ∀ t : Fin cfg0.N, win0_1.index t = ![0, 0] := (by decide +kernel : ∀ t : Fin grid0.N, win0_1.index t = ![0, 0])
theorem blk1 (c : Dev nD) (t : Fin cfg0.N) (b : Fin 3) (i : Fin 1536) :
    (iblk m c 1 t : Vec Ideal S3x1536 .f32) (ix2 b i) = (m ((c : Thread nD τ).loc main_arg1) : Vec Ideal S3x1536 .f32) (ix2 b i) := by
  blk_ext! [iblk, V_main_arg1, idx1 t]

theorem idx2 : ∀ t : Fin cfg0.N, win0_2.index t = ![0, 0, 0] := (by decide +kernel : ∀ t : Fin grid0.N, win0_2.index t = ![0, 0, 0])
theorem blk2 (c : Dev nD) (t : Fin cfg0.N) (b : Fin 3) (i : Fin 1536) (d : Fin 1152) :
    (iblk m c 2 t : Vec Ideal S3x1536x1152 .fp8e4m3) (ix3 b i d) = (m ((c : Thread nD τ).loc main_arg2) : Vec Ideal S3x1536x1152 .fp8e4m3) (ix3 b i d) := by
  blk_ext! [iblk, V_main_arg2, idx2 t]

theorem idx3 : ∀ t : Fin cfg0.N, win0_3.index t = ![0, 0] := (by decide +kernel : ∀ t : Fin grid0.N, win0_3.index t = ![0, 0])
theorem blk3 (c : Dev nD) (t : Fin cfg0.N) (b : Fin 3) (i : Fin 1536) :
    (iblk m c 3 t : Vec Ideal S3x1536 .f32) (ix2 b i) = (m ((c : Thread nD τ).loc main_arg3) : Vec Ideal S3x1536 .f32) (ix2 b i) := by
  blk_ext! [iblk, V_main_arg3, idx3 t]

theorem idx4 : ∀ t : Fin cfg0.N, win0_4.index t = ![0, 0] := (by decide +kernel : ∀ t : Fin grid0.N, win0_4.index t = ![0, 0])
theorem blk4 (c : Dev nD) (t : Fin cfg0.N) (b : Fin 3) (i : Fin 1536) :
    (iblk m c 4 t : Vec Ideal S3x1536 .i32) (ix2 b i) = (m ((c : Thread nD τ).loc main_arg4) : Vec Ideal S3x1536 .i32) (ix2 b i) := by
  blk_ext! [iblk, V_main_arg4, idx4 t]

theorem blk5 (c : Dev nD) (t : Fin cfg0.N) :
    (iblk m c 5 t : Vec Ideal S1x1x1 .f32) (ix3 0 0 0) = (m ((c : Thread nD τ).loc main_arg5) : Vec Ideal S_ .f32) ix0 := by
  blk_simp [iblk]
  entry_read
  unfold shapeCast
  exact congrArg (m _) (funext fun a => a.elim0)

theorem blk6 (c : Dev nD) (t : Fin cfg0.N) :
    (iblk m c 6 t : Vec Ideal S1x1x1 .f32) (ix3 0 0 0) = (m ((c : Thread nD τ).loc main_arg6) : Vec Ideal S_ .f32) ix0 := by
  blk_simp [iblk]
  entry_read
  unfold shapeCast
  exact congrArg (m _) (funext fun a => a.elim0)

theorem blockBatch_eq (c : Dev nD) (t : Fin cfg0.N) (b : Fin 3) : blockBatch (iblk m c 0 t) (iblk m c 2 t) (iblk m c 1 t) (iblk m c 3 t) (iblk m c 4 t) (iblk m c 5 t) (iblk m c 6 t) b = argBatch m c b := by
  unfold blockBatch argBatch
  congr 1
  · funext i d; exact blk0 m c t b i d
  · funext j d; exact blk2 m c t b j d
  · funext i; exact blk1 m c t b i
  · funext j; exact blk3 m c t b j
  · funext i; exact blk4 m c t b i

theorem final7 (c : Dev nD) : (dats m 0 c).arrAt 7 cfg0.N = (fun y => (argBatch m c (y 0)).loss (y 1) : Vec Ideal S3x1536 .f32) := by
  refine Pipeline.Dat.arrAt_eq_of_after_last _ 7 t₀ (by decide +kernel) _ fun j => ?_
  blk_simp
  rw [after0_7]
  refine Eq.trans (congrArg _ (?_ : _ = (ix2 (j 0) (j 1) : S3x1536.Idx))) ((out7 (iblk m c 0 t₀) (iblk m c 2 t₀) (iblk m c 1 t₀) (iblk m c 3 t₀) (iblk m c 4 t₀) (iblk m c 5 t₀) (iblk m c 6 t₀) (j 0) (j 1)).trans ?_)
  · funext a
    fin_cases a <;> rfl
  · exact congrArg (fun D : Batch => D.loss (j 1)) (blockBatch_eq m c t₀ (j 0))

theorem final10 (c : Dev nD) : (dats m 0 c).arrAt 10 cfg0.N = (fun y => (argBatch m c (y 0)).dt (y 1) : Vec Ideal S3x1536 .f32) := by
  refine Pipeline.Dat.arrAt_eq_of_after_last _ 10 t₀ (by decide +kernel) _ fun j => ?_
  blk_simp
  rw [after0_10]
  refine Eq.trans (congrArg _ (?_ : _ = (ix2 (j 0) (j 1) : S3x1536.Idx))) ((out10 (iblk m c 0 t₀) (iblk m c 2 t₀) (iblk m c 1 t₀) (iblk m c 3 t₀) (iblk m c 4 t₀) (iblk m c 5 t₀) (iblk m c 6 t₀) (j 0) (j 1)).trans ?_)
  · funext a
    fin_cases a <;> rfl
  · exact congrArg (fun D : Batch => D.dt (j 1)) (blockBatch_eq m c t₀ (j 0))

theorem final11 (c : Dev nD) : (dats m 0 c).arrAt 11 cfg0.N = (fun y => (argBatch m c (y 0)).db (y 1) : Vec Ideal S3x1536 .f32) := by
  refine Pipeline.Dat.arrAt_eq_of_after_last _ 11 t₀ (by decide +kernel) _ fun j => ?_
  blk_simp
  rw [after0_11]
  refine Eq.trans (congrArg _ (?_ : _ = (ix2 (j 0) (j 1) : S3x1536.Idx))) ((out11 (iblk m c 0 t₀) (iblk m c 2 t₀) (iblk m c 1 t₀) (iblk m c 3 t₀) (iblk m c 4 t₀) (iblk m c 5 t₀) (iblk m c 6 t₀) (j 0) (j 1)).trans ?_)
  · funext a
    fin_cases a <;> rfl
  · exact congrArg (fun D : Batch => D.db (j 1)) (blockBatch_eq m c t₀ (j 0))

theorem final8 (c : Dev nD) : (dats m 0 c).arrAt 8 cfg0.N = (fun y => (argBatch m c (y 0)).dx (y 1) (y 2) : Vec Ideal S3x1536x1152 .bf16) := by
  refine Pipeline.Dat.arrAt_eq_of_after_last _ 8 t₀ (by decide +kernel) _ fun j => ?_
  blk_simp
  rw [after0_8]
  refine Eq.trans (congrArg _ (?_ : _ = (ix3 (j 0) (j 1) (j 2) : S3x1536x1152.Idx))) ((out8 (iblk m c 0 t₀) (iblk m c 2 t₀) (iblk m c 1 t₀) (iblk m c 3 t₀) (iblk m c 4 t₀) (iblk m c 5 t₀) (iblk m c 6 t₀) (j 0) (j 1) (j 2)).trans ?_)
  · funext a
    fin_cases a <;> rfl
  · exact congrArg (fun D : Batch => D.dx (j 1) (j 2)) (blockBatch_eq m c t₀ (j 0))

theorem final9 (c : Dev nD) : (dats m 0 c).arrAt 9 cfg0.N = (fun y => (argBatch m c (y 0)).dy (y 1) (y 2) : Vec Ideal S3x1536x1152 .bf16) := by
  refine Pipeline.Dat.arrAt_eq_of_after_last _ 9 t₀ (by decide +kernel) _ fun j => ?_
  blk_simp
  rw [after0_9]
  refine Eq.trans (congrArg _ (?_ : _ = (ix3 (j 0) (j 1) (j 2) : S3x1536x1152.Idx))) ((out9 (iblk m c 0 t₀) (iblk m c 2 t₀) (iblk m c 1 t₀) (iblk m c 3 t₀) (iblk m c 4 t₀) (iblk m c 5 t₀) (iblk m c 6 t₀) (j 0) (j 1) (j 2)).trans ?_)
  · funext a
    fin_cases a <;> rfl
  · exact congrArg (fun D : Batch => D.dy (j 1) (j 2)) (blockBatch_eq m c t₀ (j 0))

/-- Every run leaves the five results of every batch, and the arguments as they were. -/
theorem values : θ_run defs (onTc (τ := τ) (main (F := Ideal))) ⟨m, fun _ => 0, ρ⟩ (fun r => ∀ c : Dev nD,
      r.2.mem ((c.tc : Thread nD τ).loc main_v2_0) = ((fun y => (argBatch m c (y 0)).loss (y 1)) : Vec Ideal S3x1536 .f32)
      ∧ r.2.mem ((c.tc : Thread nD τ).loc main_v2_1) = ((fun y => (argBatch m c (y 0)).dx (y 1) (y 2)) : Vec Ideal S3x1536x1152 .bf16)
      ∧ r.2.mem ((c.tc : Thread nD τ).loc main_v2_2) = ((fun y => (argBatch m c (y 0)).dy (y 1) (y 2)) : Vec Ideal S3x1536x1152 .bf16)
      ∧ r.2.mem ((c.tc : Thread nD τ).loc main_v2_3) = ((fun y => (argBatch m c (y 0)).dt (y 1)) : Vec Ideal S3x1536 .f32)
      ∧ r.2.mem ((c.tc : Thread nD τ).loc main_v2_4) = ((fun y => (argBatch m c (y 0)).db (y 1)) : Vec Ideal S3x1536 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.ReferenceIdeal.Value.run_blocks m ρ)
  obtain ⟨h7, h8, h9, h10, h11, hargs⟩ := h c
  exact ⟨h7.trans (final7 m c), h8.trans (final8 m c), h9.trans (final9 m c), h10.trans (final10 m c), h11.trans (final11 m c), hargs⟩

end Cert.ReferenceIdeal.Hand

end
-- ==== Proof.Equal.lean ====
/-
The kernel's results are the reference's.
-/
module

public import proofs.«01_k».proof.Defs
public import proofs.«01_k».proof.Proof.Arrays
public import proofs.«01_k».proof.Proof.Reference

@[expose] public section

noncomputable section

namespace Cert.Siglip

open Idealize.ShloMosaic Idealize.ShloMosaic.TcCoe Idealize.SL.Sem

/-- From the same arguments the two programs read the same batches. -/
theorem batch_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (b : Fin 3) : Cert.ReferenceIdeal.Hand.argBatch m' c b = Cert.KernelIdeal.Hand.argBatch m c b := by
  obtain ⟨h0, h1, h2, h3, h4, h5, h6⟩ := h
  unfold Cert.ReferenceIdeal.Hand.argBatch Cert.KernelIdeal.Hand.argBatch
  congr 1
  · funext i d; exact congrFun h0 (ix3 b i d)
  · funext j d; exact congrFun h2 (ix3 b j d)
  · funext i; exact congrFun h1 (ix2 b i)
  · funext j; exact congrFun h3 (ix2 b j)
  · funext i; exact congrFun h4 (ix2 b i)
  · exact congrArg Ideal.exp (congrFun h5 ix0)
  · exact congrFun h6 ix0

theorem algebraic : Cert.algebraic_KernelIdeal_ReferenceIdeal (hKernelIdeal := Cert.KernelIdeal.Gen.facts) (hReferenceIdeal := Cert.ReferenceIdeal.Gen.facts) := by
  intro m g m' g' _ hagree
  refine ⟨fun c y => (Cert.KernelIdeal.Hand.argBatch m c (y 0)).loss (y 1), fun c y => (Cert.KernelIdeal.Hand.argBatch m c (y 0)).dx (y 1) (y 2),
    fun c y => (Cert.KernelIdeal.Hand.argBatch m c (y 0)).dy (y 1) (y 2), fun c y => (Cert.KernelIdeal.Hand.argBatch m c (y 0)).dt (y 1),
    fun c y => (Cert.KernelIdeal.Hand.argBatch m c (y 0)).db (y 1), Cert.KernelIdeal.Hand.values m g, ?_⟩
  refine (θ_run _ _ _).mono (fun r h c => ?_) (Cert.ReferenceIdeal.Hand.values m' g')
  obtain ⟨h0, h1, h2, h3, h4, hargs⟩ := h c
  have hb := batch_eq m m' c (hagree c)
  refine ⟨h0.trans ?_, h1.trans ?_, h2.trans ?_, h3.trans ?_, h4.trans ?_, hargs⟩
  · funext y; exact congrArg (fun D : Batch => D.loss (y 1)) (hb (y 0))
  · funext y; exact congrArg (fun D : Batch => D.dx (y 1) (y 2)) (hb (y 0))
  · funext y; exact congrArg (fun D : Batch => D.dy (y 1) (y 2)) (hb (y 0))
  · funext y; exact congrArg (fun D : Batch => D.dt (y 1)) (hb (y 0))
  · funext y; exact congrArg (fun D : Batch => D.db (y 1)) (hb (y 0))

end Cert.Siglip

end
-- ==== Proof.lean ====
/- The certificate: every run of the three programs ends with every counter at zero, the idealised kernel differs from
   the printed one only by three named constants, and its results are the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelBody
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  ⟨IdealRules.named_const.statement Cert.KernelIdeal.κ "log2e" .f32 0x3FB8AA3B#32 _ rfl,
    IdealRules.named_const.statement Cert.KernelIdeal.κ "inv_s" .f32 0x3A2AAAAB#32 _ rfl,
    IdealRules.named_const.statement Cert.KernelIdeal.κ "ln2" .f32 0x3F317218#32 _ rfl⟩,
  Cert.Siglip.algebraic⟩

end Cert.Proof

end
